-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x8192x3328 : Shape := ⟨3, ![1, 8192, 3328]⟩
abbrev S1x3328 : Shape := ⟨2, ![1, 3328]⟩
abbrev S1x31872 : Shape := ⟨2, ![1, 31872]⟩
abbrev S3328x31872 : Shape := ⟨2, ![3328, 31872]⟩
abbrev S31872 : Shape := ⟨1, ![31872]⟩
abbrev S_ : Shape := ⟨0, ![]⟩

class Facts : Prop where
  bitsLt_bf16_f32 : FTy.bits .bf16 < FTy.bits .f32
  bcast_S_S1x3328 : S_.BroadcastsInDim S1x3328 (![] : Fin 0 → Fin S1x3328.rank)
  reducesTo_S1x3328_S_d0_1 : S1x3328.ReducesTo [0, 1] S_
  h_S_ : 0 < S_.numel

variable [Facts]

def fn {F : FTy → Type} [FloatOps F] (main_arg0 : FVec F S1x8192x3328 .bf16) (main_arg1 : FVec F S1x3328 .bf16) (main_arg2 : FVec F S1x3328 .bf16) (main_arg3 : FVec F S1x31872 .bf16) (main_arg4 : FVec F S3328x31872 .fp8e4m3) (main_arg5 : FVec F S31872 .f32) (main_arg6 : FVec F S31872 .bf16) : IVec S_ 1 :=
  let main_v0 : FVec F S1x3328 .f32 := (extf .f32 · bitsLt_bf16_f32) main_arg1
  let main_v1 : FVec F S1x3328 .f32 := Host.absf main_v0
  let main_cst : FVec F S_ .f32 := constant S_ .f32 0x7F7F0000#32
  let main_v2 : FVec F S1x3328 .f32 := broadcastInDim S1x3328 ![] bcast_S_S1x3328 main_cst
  let main_v3 : IVec S1x3328 1 := cmpf .ole main_v1 main_v2
  let main_c : IVec S_ 1 := constantI S_ 1 1#1
  let main_v4 : IVec S_ 1 := (fun x v => Host.reduce IntOp.andi x v reducesTo_S1x3328_S_d0_1 h_S_) main_v3 main_c
  let main_v5 : FVec F S1x3328 .f32 := (extf .f32 · bitsLt_bf16_f32) main_arg2
  let main_v6 : FVec F S1x3328 .f32 := Host.absf main_v5
  let main_cst_0 : FVec F S_ .f32 := constant S_ .f32 0x7F7F0000#32
  let main_v7 : FVec F S1x3328 .f32 := broadcastInDim S1x3328 ![] bcast_S_S1x3328 main_cst_0
  let main_v8 : IVec S1x3328 1 := cmpf .ole main_v6 main_v7
  let main_c_1 : IVec S_ 1 := constantI S_ 1 1#1
  let main_v9 : IVec S_ 1 := (fun x v => Host.reduce IntOp.andi x v reducesTo_S1x3328_S_d0_1 h_S_) main_v8 main_c_1
  let main_v10 : IVec S_ 1 := andi main_v4 main_v9
  main_v10
-- ==== Kernel.lean ====
abbrev S1x8192x3328 : Shape := ⟨3, ![1, 8192, 3328]⟩
abbrev S1x3328 : Shape := ⟨2, ![1, 3328]⟩
abbrev S1x31872 : Shape := ⟨2, ![1, 31872]⟩
abbrev S3328x31872 : Shape := ⟨2, ![3328, 31872]⟩
abbrev S31872 : Shape := ⟨1, ![31872]⟩
abbrev S8192x3328 : Shape := ⟨2, ![8192, 3328]⟩
abbrev S8192x1 : Shape := ⟨2, ![8192, 1]⟩
abbrev S256x3328 : Shape := ⟨2, ![256, 3328]⟩
abbrev S256x1 : Shape := ⟨2, ![256, 1]⟩
abbrev S256 : Shape := ⟨1, ![256]⟩
abbrev S8192x31872 : Shape := ⟨2, ![8192, 31872]⟩
abbrev S2048x3328 : Shape := ⟨2, ![2048, 3328]⟩
abbrev S3328x1280 : Shape := ⟨2, ![3328, 1280]⟩
abbrev S2048x1 : Shape := ⟨2, ![2048, 1]⟩
abbrev S1x1280 : Shape := ⟨2, ![1, 1280]⟩
abbrev S2048x1280 : Shape := ⟨2, ![2048, 1280]⟩
abbrev S1x8192x31872 : Shape := ⟨3, ![1, 8192, 31872]⟩
abbrev S1x8192x1 : Shape := ⟨3, ![1, 8192, 1]⟩

abbrev nBuf : Space → Nat
  | .hbm => 16
  | .vmem => 22
  | .smem => 0
  | _ => 0

abbrev bufTy : (tb : Table) → Fin (tcTables nBuf tb) → BufTy
  | .hbm, ⟨0, _⟩ => ⟨S1x8192x3328, .bf16⟩
  | .hbm, ⟨1, _⟩ => ⟨S1x3328, .bf16⟩
  | .hbm, ⟨2, _⟩ => ⟨S1x3328, .bf16⟩
  | .hbm, ⟨3, _⟩ => ⟨S1x31872, .bf16⟩
  | .hbm, ⟨4, _⟩ => ⟨S3328x31872, .fp8e4m3⟩
  | .hbm, ⟨5, _⟩ => ⟨S31872, .f32⟩
  | .hbm, ⟨6, _⟩ => ⟨S31872, .bf16⟩
  | .hbm, ⟨7, _⟩ => ⟨S8192x3328, .bf16⟩
  | .hbm, ⟨8, _⟩ => ⟨S8192x3328, .fp8e4m3⟩
  | .hbm, ⟨9, _⟩ => ⟨S8192x1, .f32⟩
  | .hbm, ⟨10, _⟩ => ⟨S1x31872, .f32⟩
  | .hbm, ⟨11, _⟩ => ⟨S1x31872, .bf16⟩
  | .hbm, ⟨12, _⟩ => ⟨S8192x31872, .bf16⟩
  | .hbm, ⟨13, _⟩ => ⟨S1x8192x31872, .bf16⟩
  | .hbm, ⟨14, _⟩ => ⟨S1x8192x3328, .fp8e4m3⟩
  | .hbm, ⟨15, _⟩ => ⟨S1x8192x1, .f32⟩
  | .local _ .vmem, ⟨0, _⟩ => ⟨S256x3328, .bf16⟩
  | .local _ .vmem, ⟨1, _⟩ => ⟨S256x3328, .bf16⟩
  | .local _ .vmem, ⟨2, _⟩ => ⟨S1x3328, .bf16⟩
  | .local _ .vmem, ⟨3, _⟩ => ⟨S1x3328, .bf16⟩
  | .local _ .vmem, ⟨4, _⟩ => ⟨S256x3328, .fp8e4m3⟩
  | .local _ .vmem, ⟨5, _⟩ => ⟨S256x3328, .fp8e4m3⟩
  | .local _ .vmem, ⟨6, _⟩ => ⟨S256x1, .f32⟩
  | .local _ .vmem, ⟨7, _⟩ => ⟨S256x1, .f32⟩
  | .local _ .vmem, ⟨8, _⟩ => ⟨S2048x3328, .fp8e4m3⟩
  | .local _ .vmem, ⟨9, _⟩ => ⟨S2048x3328, .fp8e4m3⟩
  | .local _ .vmem, ⟨10, _⟩ => ⟨S3328x1280, .fp8e4m3⟩
  | .local _ .vmem, ⟨11, _⟩ => ⟨S3328x1280, .fp8e4m3⟩
  | .local _ .vmem, ⟨12, _⟩ => ⟨S2048x1, .f32⟩
  | .local _ .vmem, ⟨13, _⟩ => ⟨S2048x1, .f32⟩
  | .local _ .vmem, ⟨14, _⟩ => ⟨S1x1280, .f32⟩
  | .local _ .vmem, ⟨15, _⟩ => ⟨S1x1280, .f32⟩
  | .local _ .vmem, ⟨16, _⟩ => ⟨S1x1280, .bf16⟩
  | .local _ .vmem, ⟨17, _⟩ => ⟨S1x1280, .bf16⟩
  | .local _ .vmem, ⟨18, _⟩ => ⟨S1x1280, .bf16⟩
  | .local _ .vmem, ⟨19, _⟩ => ⟨S1x1280, .bf16⟩
  | .local _ .vmem, ⟨20, _⟩ => ⟨S2048x1280, .bf16⟩
  | .local _ .vmem, ⟨21, _⟩ => ⟨S2048x1280, .bf16⟩
  | _, _ => ⟨S1x8192x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3328 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![25, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2048x3328 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3328x1280 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1280 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2048x1280 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S1x8192x3328 : Shape := ⟨3, ![1, 8192, 3328]⟩
abbrev S1x3328 : Shape := ⟨2, ![1, 3328]⟩
abbrev S1x31872 : Shape := ⟨2, ![1, 31872]⟩
abbrev S3328x31872 : Shape := ⟨2, ![3328, 31872]⟩
abbrev S31872 : Shape := ⟨1, ![31872]⟩
abbrev S1x8192x31872 : Shape := ⟨3, ![1, 8192, 31872]⟩
abbrev S1x8192x1 : Shape := ⟨3, ![1, 8192, 1]⟩
abbrev S8192x3328 : Shape := ⟨2, ![8192, 3328]⟩
abbrev S8192 : Shape := ⟨1, ![8192]⟩
abbrev S8192x1 : Shape := ⟨2, ![8192, 1]⟩
abbrev S8192x31872 : Shape := ⟨2, ![8192, 31872]⟩

abbrev nBuf : Space → Nat
  | .hbm => 10
  | .vmem => 10
  | .smem => 0
  | _ => 0

abbrev bufTy : (tb : Table) → Fin (tcTables nBuf tb) → BufTy
  | .hbm, ⟨0, _⟩ => ⟨S1x8192x3328, .bf16⟩
  | .hbm, ⟨1, _⟩ => ⟨S1x3328, .bf16⟩
  | .hbm, ⟨2, _⟩ => ⟨S1x3328, .bf16⟩
  | .hbm, ⟨3, _⟩ => ⟨S1x31872, .bf16⟩
  | .hbm, ⟨4, _⟩ => ⟨S3328x31872, .fp8e4m3⟩
  | .hbm, ⟨5, _⟩ => ⟨S31872, .f32⟩
  | .hbm, ⟨6, _⟩ => ⟨S31872, .bf16⟩
  | .hbm, ⟨7, _⟩ => ⟨S1x8192x31872, .bf16⟩
  | .hbm, ⟨8, _⟩ => ⟨S1x8192x3328, .fp8e4m3⟩
  | .hbm, ⟨9, _⟩ => ⟨S1x8192x1, .f32⟩
  | .local _ .vmem, ⟨0, _⟩ => ⟨S1x8192x3328, .bf16⟩
  | .local _ .vmem, ⟨1, _⟩ => ⟨S1x3328, .bf16⟩
  | .local _ .vmem, ⟨2, _⟩ => ⟨S1x3328, .bf16⟩
  | .local _ .vmem, ⟨3, _⟩ => ⟨S1x31872, .bf16⟩
  | .local _ .vmem, ⟨4, _⟩ => ⟨S3328x31872, .fp8e4m3⟩
  | .local _ .vmem, ⟨5, _⟩ => ⟨S31872, .f32⟩
  | .local _ .vmem, ⟨6, _⟩ => ⟨S31872, .bf16⟩
  | .local _ .vmem, ⟨7, _⟩ => ⟨S1x8192x31872, .bf16⟩
  | .local _ .vmem, ⟨8, _⟩ => ⟨S1x8192x3328, .fp8e4m3⟩
  | .local _ .vmem, ⟨9, _⟩ => ⟨S1x8192x1, .f32⟩
  | _, _ => ⟨S1x8192x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x8192x3328 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x31872 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3328x31872 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31872 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31872 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192x31872 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192x3328 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelBody.lean ====
/-
  The two kernel bodies of `Kernel` and the proof data of their pipelines, at any reading `F` of the float operations.

  Region 0 (`cc0_ln_quant`, 32 blocks of 256 rows) is exact: each output's buffer after the body is a function of the
  input blocks. Region 1 (`cc1_linear`, 25 x 4 blocks of 2048 x 1280) reads and writes arrays of 31872 columns, which is no
  multiple of 1280, so the last blocks of the windows on the weights, the weight scales, the bias, the gate and the result
  are cut at the end of the array, and what lies past the cut in a staging buffer is not known. Its data are therefore
  relational in the result's window: the buffer holds `out1_6` of the input blocks, each cut block filled up by SOME contents
  (`Rl1`).
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

-- the TensorCore's buffer contents when a region is entered: the parameter at which each region's half is stated
variable (V : (c : Dev nD) → (b : Ref sig .tc) → Buf (Elt F) ((c : Thread nD τ).loc b))

/-! # REGION 0 of @main: custom_call 0, `cc0_ln_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x3328 := Rect.unit (s := S256x3328) ![0, 0] S256x3328.size inb_S256x3328_S256x3328_0_0
abbrev r0_1 : Rect S1x3328 := Rect.unit (s := S1x3328) ![0, 0] S1x3328.size inb_S1x3328_S1x3328_0_0
abbrev r0_2 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay12` …, after `k0_pay11`), so that
    `out0_W` and the values after it name it instead of spelling it out; the comment after each is the printed function's
    name for the value (a count appended where that name is bound again). -/

def k0_pay12 (x0 : Vec F S256x3328 .bf16) (x1 : Vec F S1x3328 .bf16) (x2 : Vec F S1x3328 .bf16) : FVec F S256x1 .f32 :=
  k0_pay4 (View.ld x0 r0_0) (View.ld x1 r0_1) (View.ld x2 r0_1) -- `v33`
def k0_pay13 (x0 : Vec F S256x3328 .bf16) (x1 : Vec F S1x3328 .bf16) (x2 : Vec F S1x3328 .bf16) : IVec S256x1 32 :=
  k0_pay5 -- `v34`
def k0_pay14 (x0 : Vec F S256x3328 .bf16) (x1 : Vec F S1x3328 .bf16) (x2 : Vec F S1x3328 .bf16) : IVec S256x1 32 :=
  k0_pay6 -- `v36`
def k0_pay15 (x0 : Vec F S256x3328 .bf16) (x1 : Vec F S1x3328 .bf16) (x2 : Vec F S1x3328 .bf16) : IVec S256x1 32 :=
  k0_pay7 -- `v40`
def k0_pay16 (x0 : Vec F S256x3328 .bf16) (x1 : Vec F S1x3328 .bf16) (x2 : Vec F S1x3328 .bf16) : IVec S256x1 32 :=
  k0_pay11 (k0_pay12 x0 x1 x2) (k0_pay8 (k0_pay12 x0 x1 x2) (k0_pay13 x0 x1 x2) (k0_pay14 x0 x1 x2) (k0_pay15 x0 x1 x2)) (k0_pay9 (k0_pay12 x0 x1 x2) (k0_pay13 x0 x1 x2) (k0_pay14 x0 x1 x2) (k0_pay15 x0 x1 x2)) (k0_pay10 (k0_pay12 x0 x1 x2) (k0_pay13 x0 x1 x2) (k0_pay14 x0 x1 x2) (k0_pay15 x0 x1 x2)) -- `v128`

/-- Window 3's staging buffer after the body, from the input windows' blocks: its 1 store as pieces, LAST
    FIRST. -/
def out0_3 (x0 : Vec F S256x3328 .bf16) (x1 : Vec F S1x3328 .bf16) (x2 : Vec F S1x3328 .bf16) : Vec F S256x3328 .fp8e4m3 :=
  View.canon [⟨r0_0, k0_pay2 (k0_pay3 (View.ld x0 r0_0) (View.ld x1 r0_1) (View.ld x2 r0_1)) (k0_pay16 x0 x1 x2)⟩]

/-- Its stores tile the buffer (checked by evaluation), so they cover it. -/
theorem cover0_3 (p0 : Vec F S256x3328 .fp8e4m3) (y : S256x3328.Idx) :
    ∃ pc ∈ ([⟨r0_0, p0⟩] : List (View.Piece (Elt F) S256x3328 .fp8e4m3)), y ∈ pc.1.set :=
  View.cover_of_tiled [⟨r0_0, p0⟩] S256x3328.size (by rfl) y

/-- Window 4's staging buffer after the body, from the input windows' blocks: its 1 store as pieces, LAST
    FIRST. -/
def out0_4 (x0 : Vec F S256x3328 .bf16) (x1 : Vec F S1x3328 .bf16) (x2 : Vec F S1x3328 .bf16) : Vec F S256x1 .f32 :=
  View.canon [⟨r0_2, k0_pay1 (F := F) (k0_pay16 x0 x1 x2)⟩]

/-- Its stores tile the buffer (checked by evaluation), so they cover it. -/
theorem cover0_4 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S256x3328 .bf16) (harg1 : arg1.IsWhole) (arg2 : Memref sig .tc .vmem S1x3328 .bf16) (harg2 : arg2.IsWhole) (arg3 : Memref sig .tc .vmem S1x3328 .bf16) (harg3 : arg3.IsWhole) (arg4 : Memref sig .tc .vmem S256x3328 .fp8e4m3) (harg4 : arg4.IsWhole) (arg5 : Memref sig .tc .vmem S256x1 .f32) (harg5 : arg5.IsWhole)
    (x0 : Vec F S256x3328 .bf16) (x1 : Vec F S1x3328 .bf16) (x2 : Vec F S1x3328 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0_ln_quant i arg1 harg1 arg2 harg2 arg3 harg3 arg4 harg4 arg5 harg5) K := by
  simp only [cc0_ln_quant_eq_skeleton]; unfold cc0_ln_quant_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_linear` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The cuts of window 1, 3, 4 and 5's blocks are functions of the block index. -/
theorem clip1_1 (t t' : Fin cfg1.N) (h : (cfg1.win 1).index t = (cfg1.win 1).index t') :
    (cfg1.win 1).clip (cfg1.grid.coords t) = (cfg1.win 1).clip (cfg1.grid.coords t') :=
  funext fun a => congrArg (fun ix : Fin 2 → Nat => Pipeline.Clip.of (ix a) (S3328x1280.size a) (S3328x31872.size a)) h
theorem clip1_3 (t t' : Fin cfg1.N) (h : (cfg1.win 3).index t = (cfg1.win 3).index t') :
    (cfg1.win 3).clip (cfg1.grid.coords t) = (cfg1.win 3).clip (cfg1.grid.coords t') :=
  funext fun a => congrArg (fun ix : Fin 2 → Nat => Pipeline.Clip.of (ix a) (S1x1280.size a) (S1x31872.size a)) h
theorem clip1_4 (t t' : Fin cfg1.N) (h : (cfg1.win 4).index t = (cfg1.win 4).index t') :
    (cfg1.win 4).clip (cfg1.grid.coords t) = (cfg1.win 4).clip (cfg1.grid.coords t') :=
  funext fun a => congrArg (fun ix : Fin 2 → Nat => Pipeline.Clip.of (ix a) (S1x1280.size a) (S1x31872.size a)) h
theorem clip1_5 (t t' : Fin cfg1.N) (h : (cfg1.win 5).index t = (cfg1.win 5).index t') :
    (cfg1.win 5).clip (cfg1.grid.coords t) = (cfg1.win 5).clip (cfg1.grid.coords t') :=
  funext fun a => congrArg (fun ix : Fin 2 → Nat => Pipeline.Clip.of (ix a) (S1x1280.size a) (S1x31872.size a)) h

/-- Window `w`'s block at point `t` in a whole staging buffer, what lies past the cut being `d`'s. -/
def fill1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- Cut back to the part inside the array, it is the block. -/
theorem cut_fill1 (c : Dev nD) (w : Fin cfg1.W) (t : Fin cfg1.N) (d) :
    (cfg1.win w).cut (cfg1.grid.coords t) (fill1 V c w t d) = iblk1 V c w t := by
  unfold fill1; exact Window.cut_fill _ _ _ _

/-- A cut input window's current staging buffer holds its block, filled up by what a fetch left past the cut, at every point,
    fetched there or not, for ANY proof data whose array is `V`'s and whose body leaves the block in place. -/
theorem before1_of {c : Dev nD} (dat : Dat τ (Elt F) Unit ℕ (UR sig nD τ) ℕ cfg1 c) (w : Fin cfg1.W) (hw : (cfg1.win w).isOut = false)
    (hclip : ∀ t t' : Fin cfg1.N, (cfg1.win w).index t = (cfg1.win w).index t' →
      (cfg1.win w).clip (cfg1.grid.coords t) = (cfg1.win w).clip (cfg1.grid.coords t'))
    (hA : dat.A w = V c (Pipeline.arrRef spec1 w)) (d' : (cfg1.win w).block.Idx → Elt F (cfg1.win w).elt)
    (hafter : ∀ t, dat.after w t = fill1 V c w t d') (t : Fin cfg1.N) (d) : dat.before w t d = fill1 V c w t d :=
  (dat.before_in_eq_fetched w hw (fun _ => rfl) hclip
    (fun t => by rw [hafter, cut_fill1]; unfold Dat.blockOf iblk1; rw [hA]; try rfl) t d).trans
    (by unfold Dat.fetched Dat.blockOf fill1 iblk1; rw [hA]; try rfl)

/-! ## The body's accesses -/

abbrev r1_0 : Rect S2048x3328 := Rect.unit (s := S2048x3328) ![0, 0] S2048x3328.size inb_S2048x3328_S2048x3328_0_0
abbrev r1_1 : Rect S3328x1280 := Rect.unit (s := S3328x1280) ![0, 0] S3328x1280.size inb_S3328x1280_S3328x1280_0_0
abbrev r1_2 : Rect S2048x1 := Rect.unit (s := S2048x1) ![0, 0] S2048x1.size inb_S2048x1_S2048x1_0_0
abbrev r1_3 : Rect S1x1280 := Rect.unit (s := S1x1280) ![0, 0] S1x1280.size inb_S1x1280_S1x1280_0_0
abbrev r1_4 : Rect S2048x1280 := Rect.unit (s := S2048x1280) ![0, 0] S2048x1280.size inb_S2048x1280_S2048x1280_0_0

/-! ## What the body leaves in each output window's buffer -/

/-- Window 6's staging buffer after the body, from the input windows' blocks: its 1 store as pieces, LAST
    FIRST. -/
def out1_6 (x0 : Vec F S2048x3328 .fp8e4m3) (x1 : Vec F S3328x1280 .fp8e4m3) (x2 : Vec F S2048x1 .f32) (x3 : Vec F S1x1280 .f32) (x4 : Vec F S1x1280 .bf16) (x5 : Vec F S1x1280 .bf16) : Vec F S2048x1280 .bf16 :=
  View.canon [⟨r1_4, k1_pay1 (View.ld x0 r1_0) (View.ld x1 r1_1) (View.ld x2 r1_2) (View.ld x3 r1_3) (View.ld x4 r1_3) (View.ld x5 r1_3)⟩]

/-- Its stores tile the buffer (checked by evaluation), so they cover it. -/
theorem cover1_6 (p0 : Vec F S2048x1280 .bf16) (y : S2048x1280.Idx) :
    ∃ pc ∈ ([⟨r1_4, p0⟩] : List (View.Piece (Elt F) S2048x1280 .bf16)), y ∈ pc.1.set :=
  View.cover_of_tiled [⟨r1_4, p0⟩] S2048x1280.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg2 : Memref sig .tc .vmem S2048x3328 .fp8e4m3) (harg2 : arg2.IsWhole) (arg3 : Memref sig .tc .vmem S3328x1280 .fp8e4m3) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .bf16) (harg6 : arg6.IsWhole) (arg7 : Memref sig .tc .vmem S1x1280 .bf16) (harg7 : arg7.IsWhole) (arg8 : Memref sig .tc .vmem S2048x1280 .bf16) (harg8 : arg8.IsWhole)
    (x0 : Vec F S2048x3328 .fp8e4m3) (x1 : Vec F S3328x1280 .fp8e4m3) (x2 : Vec F S2048x1 .f32) (x3 : Vec F S1x1280 .f32) (x4 : Vec F S1x1280 .bf16) (x5 : Vec F S1x1280 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1_linear i arg2 harg2 arg3 harg3 arg4 harg4 arg5 harg5 arg6 harg6 arg7 harg7 arg8 harg8) K := by
  simp only [cc1_linear_eq_skeleton]; unfold cc1_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- Some contents of window `w`'s staging buffer. -/
def some1 (w : Fin cfg1.W) : (cfg1.win w).block.Idx → Elt F (cfg1.win w).elt := fun _ => Classical.arbitrary _

/-- The proof data of pipeline 1 on core `c`: the arrays as the region finds them (`V`); after the body at point `t` each
    input's buffer at its block, a cut block filled up by anything (the obligation reads only its cut); of the result's window
    nothing is named here (it is held to `Rl1`); the invariant: the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fill1 V c 1 t (some1 1)
    | ⟨2, _⟩ => iblk1 V c 2 t
    | ⟨3, _⟩ => fill1 V c 3 t (some1 3)
    | ⟨4, _⟩ => fill1 V c 4 t (some1 4)
    | ⟨5, _⟩ => fill1 V c 5 t (some1 5)
    | ⟨6, _⟩ => some1 6
  Φ _ := Pipeline.ΦA spec1 c
  q _ := fullShare
  owed _ := 0

/-- The windows held to a predicate: the result's. -/
def fgt1 : Fin cfg1.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => true

/-- What the result's buffer holds after the body at point `t`: `out1_6` of the input blocks, each cut block filled up by some
    contents. -/
def Res1 (c : Dev nD) (t : Fin cfg1.N) (X : Vec F S2048x1280 .bf16) : Prop :=
  ∃ d1 d3 d4 d5, X = out1_6 (iblk1 V c 0 t) (fill1 V c 1 t d1) (iblk1 V c 2 t) (fill1 V c 3 t d3) (fill1 V c 4 t d4) (fill1 V c 5 t d5)

/-- The predicate, window by window. -/
def Rl1 (c : Dev nD) : (w : Fin cfg1.W) → Fin cfg1.N → ((cfg1.win w).block.Idx → Elt F (cfg1.win w).elt) → Prop :=
  fun w t => match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => fun X => Res1 V c t X

/-- The proof data's arrays are the region-entry contents, by projecting the definition. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = fill1 V c 1 t (some1 1) := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fill1 V c 3 t (some1 3) := by dsimp only [dat1]
theorem after1_4 (c : Dev nD) (t : Fin cfg1.N) : (dat1 V c).after 4 t = fill1 V c 4 t (some1 4) := by dsimp only [dat1]
theorem after1_5 (c : Dev nD) (t : Fin cfg1.N) : (dat1 V c).after 5 t = fill1 V c 5 t (some1 5) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = fill1 V c 1 t d :=
  before1_of V (dat1 V c) 1 rfl clip1_1 (A_eq1 V c 1) _ (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = fill1 V c 3 t d :=
  before1_of V (dat1 V c) 3 rfl clip1_3 (A_eq1 V c 3) _ (after1_3 V c) t d
theorem before1_4 (c : Dev nD) (t : Fin cfg1.N) (d) : (dat1 V c).before 4 t d = fill1 V c 4 t d :=
  before1_of V (dat1 V c) 4 rfl clip1_4 (A_eq1 V c 4) _ (after1_4 V c) t d
theorem before1_5 (c : Dev nD) (t : Fin cfg1.N) (d) : (dat1 V c).before 5 t d = fill1 V c 5 t d :=
  before1_of V (dat1 V c) 5 rfl clip1_5 (A_eq1 V c 5) _ (after1_5 V c) t d

/-- What a cut input's buffer is left at: its block, filled up by anything. -/
theorem leave1 (c : Dev nD) (w : Fin cfg1.W) (t : Fin cfg1.N) (d d' : (cfg1.win w).block.Idx → Elt F (cfg1.win w).elt)
    (h : (dat1 V c).after w t = fill1 V c w t d') :
    (cfg1.win w).fill (cfg1.grid.coords t) d ((cfg1.win w).cut (cfg1.grid.coords t) ((dat1 V c).after w t)) = fill1 V c w t d := by
  rw [h, cut_fill1]; unfold fill1; rfl

/-! ## The body obligation, at a generic point -/

/-- What the body is called with at point `t`, the windows one by one: the result's buffer at anything the relation lets it hold, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ Y, ⌜((dat1 V c).toRRel fgt1 (Rl1 V c)).Finds 6 t Y⌝ ∗ owns (c : Thread nD τ) (st1_6 t) fullShare Y))

/-- and what it returns: each cut input's buffer at its block filled up by some contents, the result's at contents that meet
    `Rl1`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t)
    ∗ (∃ d, owns (c : Thread nD τ) (st1_3 t) fullShare ((cfg1.win 3).fill (cfg1.grid.coords t) d ((cfg1.win 3).cut (cfg1.grid.coords t) ((dat1 V c).after 3 t))))
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t))))
    ∗ (∃ X, ⌜Rl1 V c 6 t X⌝ ∗ owns (c : Thread nD τ) (st1_6 t) fullShare X))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [funext fun d => congrArg (owns (c : Thread nD τ) (st1_1 t) fullShare) (leave1 V c 1 t d _ (after1_1 V c t)),
    funext fun d => congrArg (owns (c : Thread nD τ) (st1_3 t) fullShare) (leave1 V c 3 t d _ (after1_3 V c t)),
    funext fun d => congrArg (owns (c : Thread nD τ) (st1_4 t) fullShare) (leave1 V c 4 t d _ (after1_4 V c t)),
    funext fun d => congrArg (owns (c : Thread nD τ) (st1_5 t) fullShare) (leave1 V c 5 t d _ (after1_5 V c t))]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_2]
  iintro ⟨HΦ, Ho, ⟨%d0, H0⟩, ⟨%d1, H1⟩, ⟨%d2, H2⟩, ⟨%d3, H3⟩, ⟨%d4, H4⟩, ⟨%d5, H5⟩, ⟨%Y, -, H6⟩⟩
  iapply (sound_kernel1 c Set.univ (grid1.coords t) _ _ _ _ _ _ _ _ _ _ _ _ _ _ (iblk1 V c 0 t) (fill1 V c 1 t d1) (iblk1 V c 2 t) (fill1 V c 3 t d3) (fill1 V c 4 t d4) (fill1 V c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexists d1; iexact H1
  isplitl [H2]; · iexact H2
  isplitl [H3]; · iexists d3; iexact H3
  isplitl [H4]; · iexists d4; iexact H4
  isplitl [H5]; · iexists d5; iexact H5
  iexists _
  isplitr
  · ipureintro; exact ⟨d1, d3, d4, d5, rfl⟩
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation with the result's window held to `Rl1`, at every point. -/
theorem body_obligation1 (c : Dev nD) :
    BodyObligationRel (dat1 (F := F) V c) (defs₀ (F := F)) Variants.none () Set.univ fgt1 (Rl1 V c) := fun t => by
  rw [bigSep_W1, bigSep_W1, defs₀_row1]
  exact triple_restated (sound_body1 V c t) rfl .rfl fun _ => .rfl

end Cert.Kernel.Run
-- ==== Proof.KernelRun.lean ====
/-
  The run of `Kernel` at any reading `F` of the float operations: @main's five segments (host reshapes, the layer norm and
  quantisation, host reshapes, the product, host reshapes) from the launch to the return. Region 0 leaves exactly named
  contents; region 1 leaves its result at contents of which its relation `Rl1` is known, so what every buffer holds from there
  on depends on a bound witness `Γ`. `run_out` states every buffer at the end; `frame` reads the arguments off it.
-/
module

public import proofs.«01_k».proof.Proof.KernelBody
public import Idealize.ShloMosaic.Lib.Pipeline.RegionsLoop
public import Idealize.ShloMosaic.Lib.Pipeline.RegionsOwned
public import Idealize.ShloMosaic.Lib.Pipeline.FrameSuffix
public import Idealize.ShloMosaic.Lib.Tactic

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- Region 1's data: exact, the result's window held to `Rl1`. -/
abbrev rd1 (c : Dev nD) : RDat τ (Elt F) Unit ℕ (UR sig nD τ) ℕ cfg1 c := (dat1 (V3 m ρ) c).toRRel fgt1 (Rl1 (V3 m ρ) c)
/-- What region 1's arrays may hold at its exit. -/
abbrev Γ (c : Dev nD) : Type :=
  {A : (w : Fin cfg1.W) → Buf (Elt F) ((cfg1.win w).arr.view.loc (c.tc : Thread nD τ)) // ∀ w, (rd1 m ρ c).ArrAt w cfg1.N (A w)}
/-- At region 1's exit: its arrays at the witness, every other buffer as entered. -/
def W4 (c : Dev nD) (γ : Γ m ρ c) : Valuation τ sig (Elt F) :=
  Pipeline.withArrays spec1 c (W3 m ρ c) γ.1
theorem W4_arr (c : Dev nD) (γ : Γ m ρ c) (w : Fin cfg1.W) :
    W4 m ρ c γ (Proc.devRef .tc (Pipeline.arrRef spec1 w)) = γ.1 w := by
  unfold W4; exact Pipeline.withArrays_arr spec1 launch1.win.arr_inj c _ _ w
theorem W4_of_ne (c : Dev nD) (γ : Γ m ρ c) (b : Ref sig .tc) (hb : ∀ w, Pipeline.arrRef spec1 w ≠ b) :
    W4 m ρ c γ (Proc.devRef .tc b) = W3 m ρ c (Proc.devRef .tc b) := by
  unfold W4; exact Pipeline.withArrays_of_ne spec1 c _ _ b hb
/-- A reference that is none of region 1's OUTPUT arrays keeps its entry contents across it: an input window's
    array is never written back; any other buffer is left as is. -/
theorem W4_of (c : Dev nD) (γ : Γ m ρ c) (r : Ref sig .tc) (h : ∀ w : Fin cfg1.W, Pipeline.arrRef spec1 w = r → (cfg1.win w).isOut = false) :
    W4 m ρ c γ (Proc.devRef .tc r) = W3 m ρ c (Proc.devRef .tc r) := by
  by_cases hw : ∃ w : Fin cfg1.W, Pipeline.arrRef spec1 w = r
  · obtain ⟨w, rfl⟩ := hw
    have hA := γ.2 w
    rw [RDat.ArrAt_in (rd1 m ρ c) w (h w rfl)] at hA
    exact (W4_arr m ρ c γ w).trans (hA.trans (A_eq1 (V3 m ρ) c w))
  · exact W4_of_ne m ρ c γ r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W4_args (c : Dev nD) (γ : Γ m ρ c) : ∀ a ∈ argRefs, W4 m ρ c γ (Proc.devRef .tc a) = m ((c : Thread nD τ).loc a) :=
  fun a ha => (W4_of m ρ c γ a (argsIn1 a ha)).trans (W3_args m ρ c a ha)
/-- The same read at the TensorCore's references. -/
abbrev V4 : (c : Dev nD) → Γ m ρ c → (b : Ref sig .tc) → Buf (Elt F) ((c : Thread nD τ).loc b) := fun c γ b => W4 m ρ c γ b
theorem hrest1 (c : Dev nD) (γ : Γ m ρ c) : ∀ b, b ∉ Finset.univ.image (Pipeline.arrRef spec1) → V4 m ρ c γ b = V3 m ρ c b :=
  fun b hb => W4_of_ne m ρ c γ b fun w e => hb (Finset.mem_image.mpr ⟨w, Finset.mem_univ _, e⟩)

/-- Region 1's arrays at its exit, at some witness. -/
theorem arrays1_exit (c : Dev nD) :
    ((rd1 m ρ c).arraysAt cfg1.N : sProp 𝕄) ⊢ iprop(∃ γ : Γ m ρ c, (dat1 (V3 m ρ) c).arrays γ.1) := by
  unfold RDat.arraysAt Dat.arrays
  refine (BI.bigSep_exists_pi Finset.univ _).trans ?_
  iintro ⟨%A, H⟩
  ihave H' := (BI.bigSep_pure_sep Finset.univ (fun w => (rd1 m ρ c).ArrAt w cfg1.N (A w)) _) $$ H
  icases H' with ⟨%hA, H⟩
  iexists ⟨A, fun w => hA w (Finset.mem_univ w)⟩
  iexact H

/-- After `hostOps2`: the end. -/
abbrev W5 : (c : Dev nD) → Γ m ρ c → Valuation τ sig (Elt F) := fun c γ => StableHlo.after hostOps2 (W4 m ρ c γ)
/-- A reference `hostOps2` does not write keeps its contents across it. -/
theorem W5_of (c : Dev nD) (γ : Γ m ρ c) (r : Ref sig .tc) (h : r ∉ hostOps2_W) : W5 m ρ c γ (Proc.devRef .tc r) = W4 m ρ c γ (Proc.devRef .tc r) :=
  StableHlo.after_of_writes_sub hostOps2 _ hostOps2_writes h
/-- The arguments end as launched: no host stretch writes one and no region may change one. -/
theorem W5_args (c : Dev nD) (γ : Γ m ρ c) : ∀ a ∈ argRefs, W5 m ρ c γ (Proc.devRef .tc a) = m ((c : Thread nD τ).loc a) :=
  fun a ha => (W5_of m ρ c γ a (hostOps2_args a ha)).trans (W4_args m ρ c γ a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The same read relationally: region 0's as they are, region 1's with the result's window held to `Rl1`. -/
def rdats : (p : Fin 2) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => rd1 m ρ c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A host stretch from contents under a witness. -/
abbrev hsegEx (ops : List (HloOp τ sig (Elt F))) (hsub : ops.Forall fun op => op.bufs ⊆ StableHlo.tcRefs τ sig)
    (hfresh : ops.Forall fun op => op.fresh = ∅) (W : (c : Dev nD) → Γ m ρ c → Valuation τ sig (Elt F)) :
    Pipeline.HostSeg (Name := ℕ) (U := UR sig nD τ) (pcfgs (F := F)) defs₀ 𝒱₀ L lv :=
  Pipeline.HostSeg.ofOpsEx _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop((∃ γ : Γ m ρ c, StableHlo.held (c : Thread nD τ) (Pipeline.ucRefs τ sig) (W5 m ρ c γ)) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := RDat.arrays_of_unscopedBufs (p := 0) (pcfgs (F := F)) adm (rdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]
      · iapply ((dat0 (V1 m ρ) c).toR_arraysAt_post cfg0.N); iexact Ha
      · iexact Hrest
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4` of some witness
    (what the next segment is entered from). Its arrays split out of the unscoped buffers
    (`arrays_of_unscopedBufs`) and put back at the exit contents (`unscopedBufs_of_arrays`); the generator register into the
    class invariant `ΦA` and out; nothing owed; no semaphore of the kernel's own. -/
def reg1 : RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toRRel
  hwaits := RDat.hwaits_of_owed_zero _ _ _ _ L lv 1 fun _ _ => rfl
  pre c := iprop(StableHlo.held (c : Thread nD τ) (Pipeline.ucRefs τ sig) (W3 m ρ c) ∗ R c)
  post c := iprop((∃ γ : Γ m ρ c, StableHlo.held (c : Thread nD τ) (Pipeline.ucRefs τ sig) (W4 m ρ c γ)) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := RDat.arrays_of_unscopedBufs (p := 1) (pcfgs (F := F)) adm (rdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun γ : Γ m ρ c => Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c γ) γ.1 (fun w => (W4_arr m ρ c γ w).symm) (hrest1 m ρ c γ)
    simp only [Pipeline.unscopedBufs_held] at hjoin
    have hx : ((rdats m ρ 1 c).arraysAt (Pipeline.pin (pcfgs (F := F)) adm 1).N : sProp 𝕄)
        ⊢ iprop(∃ γ : Γ m ρ c, (dat1 (V3 m ρ) c).arrays γ.1) := arrays1_exit m ρ c
    iintro ⟨Ha, HO, HY, Hrest⟩
    imodintro
    isplitl [Ha Hrest]
    · ihave Ha := hx $$ Ha
      icases Ha with ⟨%γ, Ha⟩
      iexists γ
      iapply (hjoin γ)
      isplitl [Ha]
      · iexact Ha
      · iexact Hrest
    isplitl [HY]; · iexact HY
    unfold Pipeline.RDat.owesAt Pipeline.owesWithin
    icases HO with ⟨%W, -, HO⟩; iexists W; iexact HO

/-! ## @main as segments, and the launch -/

/-- @main's 5 segments in order: a host segment per stretch from its boundary's contents, a region per pallas_call. -/
abbrev segs : List (RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hsegEx m ρ hostOps2 hostOps2_sub hostOps2_fresh (W4 m ρ)) ]
/-- @main IS the run of the segments: `main_chain`, then the segments' run against that chain by the kernel's
    definitional check (`chain_rfl`). -/
theorem main_run (c : Dev nD) : main (F := F) c = RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- EVERY BUFFER AT THE END: from any memory with zero counters every weakly fair execution of @main terminates, nothing
    faulting, and every final state has each unscoped buffer at `W5` of some witness and every semaphore counter at zero. -/
theorem run_out : θ_run defs (onTc (τ := τ) (main (F := F))) ⟨m, fun _ => 0, ρ⟩ (fun r => (∀ c : Dev nD,
      ∃ γ : Γ m ρ c, ∀ b ∈ Pipeline.ucRefs τ sig, r.2.mem (((c : Thread nD τ)).1, b) = W5 m ρ c γ b)
      ∧ r.2.sem = fun _ => 0) :=
  RDat.θ_run_regions_kit_sems (pcfgs (F := F)) adm (rdats m ρ) () cellOf_inj emb₁ defs₀ 𝒱₀ L lv m ρ main (segs m ρ)
    (fun c Q => by rw [main_run m ρ c])
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [RDat.Seg.post, hsegEx, Pipeline.HostSeg.ofOpsEx]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ γ : Γ m ρ c, ∀ b ∈ Pipeline.ucRefs τ sig, s.mem (((c : Thread nD τ)).1, b) = W5 m ρ c γ b)
    (hfin := fun c s' => by
      iintro ⟨⟨⟨%γ, Hh⟩, -⟩, HSI⟩
      unfold StableHlo.held
      imodintro
      ihave H := (pointsTo_read_all (Pipeline.ucRefs τ sig) (fun b => (((c : Thread nD τ)).1, b)) (W5 m ρ c γ) s') $$ [Hh HSI]
      · isplitl [Hh] <;> iassumption
      icases H with ⟨%hb, HSI⟩
      isplitr
      · ipureintro; exact ⟨γ, hb⟩
      iexact HSI)
    (hQ := fun s h hz => ⟨h, funext fun g => hz g (.inr (no_unscoped g.2))⟩)

/-- THE FRAME: the argument arrays end as launched and every semaphore counter of the machine ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    obtain ⟨γ, hb⟩ := h.1 c
    have key : ∀ a ∈ argRefs, ¬ (Proc.devRef .tc a : DevRef τ sig).isScoped → r.2.mem ((c.tc : Thread nD τ).loc a) = m ((c.tc : Thread nD τ).loc a) :=
      fun a ha hs => (hb _ (mem_uc a hs)).trans (W5_args m ρ c γ a ha)
    exact ⟨key main_arg0 (by decide) (by decide), key main_arg1 (by decide) (by decide), key main_arg2 (by decide) (by decide),
      key main_arg3 (by decide) (by decide), key main_arg4 (by decide) (by decide), key main_arg5 (by decide) (by decide),
      key main_arg6 (by decide) (by decide)⟩, h.2⟩) (run_out m ρ)

end Cert.Kernel.Run
-- ==== Proof.KernelIdealBody.lean ====
/-
  The two kernel bodies of `KernelIdeal` and the proof data of their pipelines, at any reading `F` of the float operations.

  Region 0 (`cc0_ln_quant`, 32 blocks of 256 rows) is exact: each output's buffer after the body is a function of the
  input blocks. Region 1 (`cc1_linear`, 25 x 4 blocks of 2048 x 1280) reads and writes arrays of 31872 columns, which is no
  multiple of 1280, so the last blocks of the windows on the weights, the weight scales, the bias, the gate and the result
  are cut at the end of the array, and what lies past the cut in a staging buffer is not known. Its data are therefore
  relational in the result's window: the buffer holds `out1_6` of the input blocks, each cut block filled up by SOME contents
  (`Rl1`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

-- the TensorCore's buffer contents when a region is entered: the parameter at which each region's half is stated
variable (V : (c : Dev nD) → (b : Ref sig .tc) → Buf (Elt F) ((c : Thread nD τ).loc b))

/-! # REGION 0 of @main: custom_call 0, `cc0_ln_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x3328 := Rect.unit (s := S256x3328) ![0, 0] S256x3328.size inb_S256x3328_S256x3328_0_0
abbrev r0_1 : Rect S1x3328 := Rect.unit (s := S1x3328) ![0, 0] S1x3328.size inb_S1x3328_S1x3328_0_0
abbrev r0_2 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay12` …, after `k0_pay11`), so that
    `out0_W` and the values after it name it instead of spelling it out; the comment after each is the printed function's
    name for the value (a count appended where that name is bound again). -/

def k0_pay12 (x0 : Vec F S256x3328 .bf16) (x1 : Vec F S1x3328 .bf16) (x2 : Vec F S1x3328 .bf16) : FVec F S256x1 .f32 :=
  k0_pay4 (View.ld x0 r0_0) (View.ld x1 r0_1) (View.ld x2 r0_1) -- `v33`
def k0_pay13 (x0 : Vec F S256x3328 .bf16) (x1 : Vec F S1x3328 .bf16) (x2 : Vec F S1x3328 .bf16) : IVec S256x1 32 :=
  k0_pay5 -- `v34`
def k0_pay14 (x0 : Vec F S256x3328 .bf16) (x1 : Vec F S1x3328 .bf16) (x2 : Vec F S1x3328 .bf16) : IVec S256x1 32 :=
  k0_pay6 -- `v36`
def k0_pay15 (x0 : Vec F S256x3328 .bf16) (x1 : Vec F S1x3328 .bf16) (x2 : Vec F S1x3328 .bf16) : IVec S256x1 32 :=
  k0_pay7 -- `v40`
def k0_pay16 (x0 : Vec F S256x3328 .bf16) (x1 : Vec F S1x3328 .bf16) (x2 : Vec F S1x3328 .bf16) : IVec S256x1 32 :=
  k0_pay11 (k0_pay12 x0 x1 x2) (k0_pay8 (k0_pay12 x0 x1 x2) (k0_pay13 x0 x1 x2) (k0_pay14 x0 x1 x2) (k0_pay15 x0 x1 x2)) (k0_pay9 (k0_pay12 x0 x1 x2) (k0_pay13 x0 x1 x2) (k0_pay14 x0 x1 x2) (k0_pay15 x0 x1 x2)) (k0_pay10 (k0_pay12 x0 x1 x2) (k0_pay13 x0 x1 x2) (k0_pay14 x0 x1 x2) (k0_pay15 x0 x1 x2)) -- `v128`

/-- Window 3's staging buffer after the body, from the input windows' blocks: its 1 store as pieces, LAST
    FIRST. -/
def out0_3 (x0 : Vec F S256x3328 .bf16) (x1 : Vec F S1x3328 .bf16) (x2 : Vec F S1x3328 .bf16) : Vec F S256x3328 .fp8e4m3 :=
  View.canon [⟨r0_0, k0_pay2 (k0_pay3 (View.ld x0 r0_0) (View.ld x1 r0_1) (View.ld x2 r0_1)) (k0_pay16 x0 x1 x2)⟩]

/-- Its stores tile the buffer (checked by evaluation), so they cover it. -/
theorem cover0_3 (p0 : Vec F S256x3328 .fp8e4m3) (y : S256x3328.Idx) :
    ∃ pc ∈ ([⟨r0_0, p0⟩] : List (View.Piece (Elt F) S256x3328 .fp8e4m3)), y ∈ pc.1.set :=
  View.cover_of_tiled [⟨r0_0, p0⟩] S256x3328.size (by rfl) y

/-- Window 4's staging buffer after the body, from the input windows' blocks: its 1 store as pieces, LAST
    FIRST. -/
def out0_4 (x0 : Vec F S256x3328 .bf16) (x1 : Vec F S1x3328 .bf16) (x2 : Vec F S1x3328 .bf16) : Vec F S256x1 .f32 :=
  View.canon [⟨r0_2, k0_pay1 (F := F) (k0_pay16 x0 x1 x2)⟩]

/-- Its stores tile the buffer (checked by evaluation), so they cover it. -/
theorem cover0_4 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S256x3328 .bf16) (harg1 : arg1.IsWhole) (arg2 : Memref sig .tc .vmem S1x3328 .bf16) (harg2 : arg2.IsWhole) (arg3 : Memref sig .tc .vmem S1x3328 .bf16) (harg3 : arg3.IsWhole) (arg4 : Memref sig .tc .vmem S256x3328 .fp8e4m3) (harg4 : arg4.IsWhole) (arg5 : Memref sig .tc .vmem S256x1 .f32) (harg5 : arg5.IsWhole)
    (x0 : Vec F S256x3328 .bf16) (x1 : Vec F S1x3328 .bf16) (x2 : Vec F S1x3328 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0_ln_quant i arg1 harg1 arg2 harg2 arg3 harg3 arg4 harg4 arg5 harg5) K := by
  simp only [cc0_ln_quant_eq_skeleton]; unfold cc0_ln_quant_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_linear` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The cuts of window 1, 3, 4 and 5's blocks are functions of the block index. -/
theorem clip1_1 (t t' : Fin cfg1.N) (h : (cfg1.win 1).index t = (cfg1.win 1).index t') :
    (cfg1.win 1).clip (cfg1.grid.coords t) = (cfg1.win 1).clip (cfg1.grid.coords t') :=
  funext fun a => congrArg (fun ix : Fin 2 → Nat => Pipeline.Clip.of (ix a) (S3328x1280.size a) (S3328x31872.size a)) h
theorem clip1_3 (t t' : Fin cfg1.N) (h : (cfg1.win 3).index t = (cfg1.win 3).index t') :
    (cfg1.win 3).clip (cfg1.grid.coords t) = (cfg1.win 3).clip (cfg1.grid.coords t') :=
  funext fun a => congrArg (fun ix : Fin 2 → Nat => Pipeline.Clip.of (ix a) (S1x1280.size a) (S1x31872.size a)) h
theorem clip1_4 (t t' : Fin cfg1.N) (h : (cfg1.win 4).index t = (cfg1.win 4).index t') :
    (cfg1.win 4).clip (cfg1.grid.coords t) = (cfg1.win 4).clip (cfg1.grid.coords t') :=
  funext fun a => congrArg (fun ix : Fin 2 → Nat => Pipeline.Clip.of (ix a) (S1x1280.size a) (S1x31872.size a)) h
theorem clip1_5 (t t' : Fin cfg1.N) (h : (cfg1.win 5).index t = (cfg1.win 5).index t') :
    (cfg1.win 5).clip (cfg1.grid.coords t) = (cfg1.win 5).clip (cfg1.grid.coords t') :=
  funext fun a => congrArg (fun ix : Fin 2 → Nat => Pipeline.Clip.of (ix a) (S1x1280.size a) (S1x31872.size a)) h

/-- Window `w`'s block at point `t` in a whole staging buffer, what lies past the cut being `d`'s. -/
def fill1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- Cut back to the part inside the array, it is the block. -/
theorem cut_fill1 (c : Dev nD) (w : Fin cfg1.W) (t : Fin cfg1.N) (d) :
    (cfg1.win w).cut (cfg1.grid.coords t) (fill1 V c w t d) = iblk1 V c w t := by
  unfold fill1; exact Window.cut_fill _ _ _ _

/-- A cut input window's current staging buffer holds its block, filled up by what a fetch left past the cut, at every point,
    fetched there or not, for ANY proof data whose array is `V`'s and whose body leaves the block in place. -/
theorem before1_of {c : Dev nD} (dat : Dat τ (Elt F) Unit ℕ (UR sig nD τ) ℕ cfg1 c) (w : Fin cfg1.W) (hw : (cfg1.win w).isOut = false)
    (hclip : ∀ t t' : Fin cfg1.N, (cfg1.win w).index t = (cfg1.win w).index t' →
      (cfg1.win w).clip (cfg1.grid.coords t) = (cfg1.win w).clip (cfg1.grid.coords t'))
    (hA : dat.A w = V c (Pipeline.arrRef spec1 w)) (d' : (cfg1.win w).block.Idx → Elt F (cfg1.win w).elt)
    (hafter : ∀ t, dat.after w t = fill1 V c w t d') (t : Fin cfg1.N) (d) : dat.before w t d = fill1 V c w t d :=
  (dat.before_in_eq_fetched w hw (fun _ => rfl) hclip
    (fun t => by rw [hafter, cut_fill1]; unfold Dat.blockOf iblk1; rw [hA]; try rfl) t d).trans
    (by unfold Dat.fetched Dat.blockOf fill1 iblk1; rw [hA]; try rfl)

/-! ## The body's accesses -/

abbrev r1_0 : Rect S2048x3328 := Rect.unit (s := S2048x3328) ![0, 0] S2048x3328.size inb_S2048x3328_S2048x3328_0_0
abbrev r1_1 : Rect S3328x1280 := Rect.unit (s := S3328x1280) ![0, 0] S3328x1280.size inb_S3328x1280_S3328x1280_0_0
abbrev r1_2 : Rect S2048x1 := Rect.unit (s := S2048x1) ![0, 0] S2048x1.size inb_S2048x1_S2048x1_0_0
abbrev r1_3 : Rect S1x1280 := Rect.unit (s := S1x1280) ![0, 0] S1x1280.size inb_S1x1280_S1x1280_0_0
abbrev r1_4 : Rect S2048x1280 := Rect.unit (s := S2048x1280) ![0, 0] S2048x1280.size inb_S2048x1280_S2048x1280_0_0

/-! ## What the body leaves in each output window's buffer -/

/-- Window 6's staging buffer after the body, from the input windows' blocks: its 1 store as pieces, LAST
    FIRST. -/
def out1_6 (x0 : Vec F S2048x3328 .fp8e4m3) (x1 : Vec F S3328x1280 .fp8e4m3) (x2 : Vec F S2048x1 .f32) (x3 : Vec F S1x1280 .f32) (x4 : Vec F S1x1280 .bf16) (x5 : Vec F S1x1280 .bf16) : Vec F S2048x1280 .bf16 :=
  View.canon [⟨r1_4, k1_pay1 (View.ld x0 r1_0) (View.ld x1 r1_1) (View.ld x2 r1_2) (View.ld x3 r1_3) (View.ld x4 r1_3) (View.ld x5 r1_3)⟩]

/-- Its stores tile the buffer (checked by evaluation), so they cover it. -/
theorem cover1_6 (p0 : Vec F S2048x1280 .bf16) (y : S2048x1280.Idx) :
    ∃ pc ∈ ([⟨r1_4, p0⟩] : List (View.Piece (Elt F) S2048x1280 .bf16)), y ∈ pc.1.set :=
  View.cover_of_tiled [⟨r1_4, p0⟩] S2048x1280.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg2 : Memref sig .tc .vmem S2048x3328 .fp8e4m3) (harg2 : arg2.IsWhole) (arg3 : Memref sig .tc .vmem S3328x1280 .fp8e4m3) (harg3 : arg3.IsWhole) (arg4 : Memref sig .tc .vmem S2048x1 .f32) (harg4 : arg4.IsWhole) (arg5 : Memref sig .tc .vmem S1x1280 .f32) (harg5 : arg5.IsWhole) (arg6 : Memref sig .tc .vmem S1x1280 .bf16) (harg6 : arg6.IsWhole) (arg7 : Memref sig .tc .vmem S1x1280 .bf16) (harg7 : arg7.IsWhole) (arg8 : Memref sig .tc .vmem S2048x1280 .bf16) (harg8 : arg8.IsWhole)
    (x0 : Vec F S2048x3328 .fp8e4m3) (x1 : Vec F S3328x1280 .fp8e4m3) (x2 : Vec F S2048x1 .f32) (x3 : Vec F S1x1280 .f32) (x4 : Vec F S1x1280 .bf16) (x5 : Vec F S1x1280 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x2 x3 x4 x5)) -∗ K ⟨⟩))
      ⊢ wp frame (wpE (defs₀ (F := F)) Variants.none c none) E (cc1_linear i arg2 harg2 arg3 harg3 arg4 harg4 arg5 harg5 arg6 harg6 arg7 harg7 arg8 harg8) K := by
  simp only [cc1_linear_eq_skeleton]; unfold cc1_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- Some contents of window `w`'s staging buffer. -/
def some1 (w : Fin cfg1.W) : (cfg1.win w).block.Idx → Elt F (cfg1.win w).elt := fun _ => Classical.arbitrary _

/-- The proof data of pipeline 1 on core `c`: the arrays as the region finds them (`V`); after the body at point `t` each
    input's buffer at its block, a cut block filled up by anything (the obligation reads only its cut); of the result's window
    nothing is named here (it is held to `Rl1`); the invariant: the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fill1 V c 1 t (some1 1)
    | ⟨2, _⟩ => iblk1 V c 2 t
    | ⟨3, _⟩ => fill1 V c 3 t (some1 3)
    | ⟨4, _⟩ => fill1 V c 4 t (some1 4)
    | ⟨5, _⟩ => fill1 V c 5 t (some1 5)
    | ⟨6, _⟩ => some1 6
  Φ _ := Pipeline.ΦA spec1 c
  q _ := fullShare
  owed _ := 0

/-- The windows held to a predicate: the result's. -/
def fgt1 : Fin cfg1.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => true

/-- What the result's buffer holds after the body at point `t`: `out1_6` of the input blocks, each cut block filled up by some
    contents. -/
def Res1 (c : Dev nD) (t : Fin cfg1.N) (X : Vec F S2048x1280 .bf16) : Prop :=
  ∃ d1 d3 d4 d5, X = out1_6 (iblk1 V c 0 t) (fill1 V c 1 t d1) (iblk1 V c 2 t) (fill1 V c 3 t d3) (fill1 V c 4 t d4) (fill1 V c 5 t d5)

/-- The predicate, window by window. -/
def Rl1 (c : Dev nD) : (w : Fin cfg1.W) → Fin cfg1.N → ((cfg1.win w).block.Idx → Elt F (cfg1.win w).elt) → Prop :=
  fun w t => match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => fun X => Res1 V c t X

/-- The proof data's arrays are the region-entry contents, by projecting the definition. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = fill1 V c 1 t (some1 1) := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fill1 V c 3 t (some1 3) := by dsimp only [dat1]
theorem after1_4 (c : Dev nD) (t : Fin cfg1.N) : (dat1 V c).after 4 t = fill1 V c 4 t (some1 4) := by dsimp only [dat1]
theorem after1_5 (c : Dev nD) (t : Fin cfg1.N) : (dat1 V c).after 5 t = fill1 V c 5 t (some1 5) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = fill1 V c 1 t d :=
  before1_of V (dat1 V c) 1 rfl clip1_1 (A_eq1 V c 1) _ (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = fill1 V c 3 t d :=
  before1_of V (dat1 V c) 3 rfl clip1_3 (A_eq1 V c 3) _ (after1_3 V c) t d
theorem before1_4 (c : Dev nD) (t : Fin cfg1.N) (d) : (dat1 V c).before 4 t d = fill1 V c 4 t d :=
  before1_of V (dat1 V c) 4 rfl clip1_4 (A_eq1 V c 4) _ (after1_4 V c) t d
theorem before1_5 (c : Dev nD) (t : Fin cfg1.N) (d) : (dat1 V c).before 5 t d = fill1 V c 5 t d :=
  before1_of V (dat1 V c) 5 rfl clip1_5 (A_eq1 V c 5) _ (after1_5 V c) t d

/-- What a cut input's buffer is left at: its block, filled up by anything. -/
theorem leave1 (c : Dev nD) (w : Fin cfg1.W) (t : Fin cfg1.N) (d d' : (cfg1.win w).block.Idx → Elt F (cfg1.win w).elt)
    (h : (dat1 V c).after w t = fill1 V c w t d') :
    (cfg1.win w).fill (cfg1.grid.coords t) d ((cfg1.win w).cut (cfg1.grid.coords t) ((dat1 V c).after w t)) = fill1 V c w t d := by
  rw [h, cut_fill1]; unfold fill1; rfl

/-! ## The body obligation, at a generic point -/

/-- What the body is called with at point `t`, the windows one by one: the result's buffer at anything the relation lets it hold, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ Y, ⌜((dat1 V c).toRRel fgt1 (Rl1 V c)).Finds 6 t Y⌝ ∗ owns (c : Thread nD τ) (st1_6 t) fullShare Y))

/-- and what it returns: each cut input's buffer at its block filled up by some contents, the result's at contents that meet
    `Rl1`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t)
    ∗ (∃ d, owns (c : Thread nD τ) (st1_3 t) fullShare ((cfg1.win 3).fill (cfg1.grid.coords t) d ((cfg1.win 3).cut (cfg1.grid.coords t) ((dat1 V c).after 3 t))))
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t))))
    ∗ (∃ X, ⌜Rl1 V c 6 t X⌝ ∗ owns (c : Thread nD τ) (st1_6 t) fullShare X))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [funext fun d => congrArg (owns (c : Thread nD τ) (st1_1 t) fullShare) (leave1 V c 1 t d _ (after1_1 V c t)),
    funext fun d => congrArg (owns (c : Thread nD τ) (st1_3 t) fullShare) (leave1 V c 3 t d _ (after1_3 V c t)),
    funext fun d => congrArg (owns (c : Thread nD τ) (st1_4 t) fullShare) (leave1 V c 4 t d _ (after1_4 V c t)),
    funext fun d => congrArg (owns (c : Thread nD τ) (st1_5 t) fullShare) (leave1 V c 5 t d _ (after1_5 V c t))]
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_2]
  iintro ⟨HΦ, Ho, ⟨%d0, H0⟩, ⟨%d1, H1⟩, ⟨%d2, H2⟩, ⟨%d3, H3⟩, ⟨%d4, H4⟩, ⟨%d5, H5⟩, ⟨%Y, -, H6⟩⟩
  iapply (sound_kernel1 c Set.univ (grid1.coords t) _ _ _ _ _ _ _ _ _ _ _ _ _ _ (iblk1 V c 0 t) (fill1 V c 1 t d1) (iblk1 V c 2 t) (fill1 V c 3 t d3) (fill1 V c 4 t d4) (fill1 V c 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexists d1; iexact H1
  isplitl [H2]; · iexact H2
  isplitl [H3]; · iexists d3; iexact H3
  isplitl [H4]; · iexists d4; iexact H4
  isplitl [H5]; · iexists d5; iexact H5
  iexists _
  isplitr
  · ipureintro; exact ⟨d1, d3, d4, d5, rfl⟩
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation with the result's window held to `Rl1`, at every point. -/
theorem body_obligation1 (c : Dev nD) :
    BodyObligationRel (dat1 (F := F) V c) (defs₀ (F := F)) Variants.none () Set.univ fgt1 (Rl1 V c) := fun t => by
  rw [bigSep_W1, bigSep_W1, defs₀_row1]
  exact triple_restated (sound_body1 V c t) rfl .rfl fun _ => .rfl

end Cert.KernelIdeal.Run
-- ==== Proof.KernelIdealRun.lean ====
/-
  The run of `KernelIdeal` at any reading `F` of the float operations: @main's five segments (host reshapes, the layer norm and
  quantisation, host reshapes, the product, host reshapes) from the launch to the return. Region 0 leaves exactly named
  contents; region 1 leaves its result at contents of which its relation `Rl1` is known, so what every buffer holds from there
  on depends on a bound witness `Γ`. `run_out` states every buffer at the end; `frame` reads the arguments off it.
-/
module

public import proofs.«01_k».proof.Proof.KernelIdealBody
public import Idealize.ShloMosaic.Lib.Pipeline.RegionsLoop
public import Idealize.ShloMosaic.Lib.Pipeline.RegionsOwned
public import Idealize.ShloMosaic.Lib.Pipeline.FrameSuffix
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- Region 1's data: exact, the result's window held to `Rl1`. -/
abbrev rd1 (c : Dev nD) : RDat τ (Elt F) Unit ℕ (UR sig nD τ) ℕ cfg1 c := (dat1 (V3 m ρ) c).toRRel fgt1 (Rl1 (V3 m ρ) c)
/-- What region 1's arrays may hold at its exit. -/
abbrev Γ (c : Dev nD) : Type :=
  {A : (w : Fin cfg1.W) → Buf (Elt F) ((cfg1.win w).arr.view.loc (c.tc : Thread nD τ)) // ∀ w, (rd1 m ρ c).ArrAt w cfg1.N (A w)}
/-- At region 1's exit: its arrays at the witness, every other buffer as entered. -/
def W4 (c : Dev nD) (γ : Γ m ρ c) : Valuation τ sig (Elt F) :=
  Pipeline.withArrays spec1 c (W3 m ρ c) γ.1
theorem W4_arr (c : Dev nD) (γ : Γ m ρ c) (w : Fin cfg1.W) :
    W4 m ρ c γ (Proc.devRef .tc (Pipeline.arrRef spec1 w)) = γ.1 w := by
  unfold W4; exact Pipeline.withArrays_arr spec1 launch1.win.arr_inj c _ _ w
theorem W4_of_ne (c : Dev nD) (γ : Γ m ρ c) (b : Ref sig .tc) (hb : ∀ w, Pipeline.arrRef spec1 w ≠ b) :
    W4 m ρ c γ (Proc.devRef .tc b) = W3 m ρ c (Proc.devRef .tc b) := by
  unfold W4; exact Pipeline.withArrays_of_ne spec1 c _ _ b hb
/-- A reference that is none of region 1's OUTPUT arrays keeps its entry contents across it: an input window's
    array is never written back; any other buffer is left as is. -/
theorem W4_of (c : Dev nD) (γ : Γ m ρ c) (r : Ref sig .tc) (h : ∀ w : Fin cfg1.W, Pipeline.arrRef spec1 w = r → (cfg1.win w).isOut = false) :
    W4 m ρ c γ (Proc.devRef .tc r) = W3 m ρ c (Proc.devRef .tc r) := by
  by_cases hw : ∃ w : Fin cfg1.W, Pipeline.arrRef spec1 w = r
  · obtain ⟨w, rfl⟩ := hw
    have hA := γ.2 w
    rw [RDat.ArrAt_in (rd1 m ρ c) w (h w rfl)] at hA
    exact (W4_arr m ρ c γ w).trans (hA.trans (A_eq1 (V3 m ρ) c w))
  · exact W4_of_ne m ρ c γ r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W4_args (c : Dev nD) (γ : Γ m ρ c) : ∀ a ∈ argRefs, W4 m ρ c γ (Proc.devRef .tc a) = m ((c : Thread nD τ).loc a) :=
  fun a ha => (W4_of m ρ c γ a (argsIn1 a ha)).trans (W3_args m ρ c a ha)
/-- The same read at the TensorCore's references. -/
abbrev V4 : (c : Dev nD) → Γ m ρ c → (b : Ref sig .tc) → Buf (Elt F) ((c : Thread nD τ).loc b) := fun c γ b => W4 m ρ c γ b
theorem hrest1 (c : Dev nD) (γ : Γ m ρ c) : ∀ b, b ∉ Finset.univ.image (Pipeline.arrRef spec1) → V4 m ρ c γ b = V3 m ρ c b :=
  fun b hb => W4_of_ne m ρ c γ b fun w e => hb (Finset.mem_image.mpr ⟨w, Finset.mem_univ _, e⟩)

/-- Region 1's arrays at its exit, at some witness. -/
theorem arrays1_exit (c : Dev nD) :
    ((rd1 m ρ c).arraysAt cfg1.N : sProp 𝕄) ⊢ iprop(∃ γ : Γ m ρ c, (dat1 (V3 m ρ) c).arrays γ.1) := by
  unfold RDat.arraysAt Dat.arrays
  refine (BI.bigSep_exists_pi Finset.univ _).trans ?_
  iintro ⟨%A, H⟩
  ihave H' := (BI.bigSep_pure_sep Finset.univ (fun w => (rd1 m ρ c).ArrAt w cfg1.N (A w)) _) $$ H
  icases H' with ⟨%hA, H⟩
  iexists ⟨A, fun w => hA w (Finset.mem_univ w)⟩
  iexact H

/-- After `hostOps2`: the end. -/
abbrev W5 : (c : Dev nD) → Γ m ρ c → Valuation τ sig (Elt F) := fun c γ => StableHlo.after hostOps2 (W4 m ρ c γ)
/-- A reference `hostOps2` does not write keeps its contents across it. -/
theorem W5_of (c : Dev nD) (γ : Γ m ρ c) (r : Ref sig .tc) (h : r ∉ hostOps2_W) : W5 m ρ c γ (Proc.devRef .tc r) = W4 m ρ c γ (Proc.devRef .tc r) :=
  StableHlo.after_of_writes_sub hostOps2 _ hostOps2_writes h
/-- The arguments end as launched: no host stretch writes one and no region may change one. -/
theorem W5_args (c : Dev nD) (γ : Γ m ρ c) : ∀ a ∈ argRefs, W5 m ρ c γ (Proc.devRef .tc a) = m ((c : Thread nD τ).loc a) :=
  fun a ha => (W5_of m ρ c γ a (hostOps2_args a ha)).trans (W4_args m ρ c γ a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The same read relationally: region 0's as they are, region 1's with the result's window held to `Rl1`. -/
def rdats : (p : Fin 2) → (c : Dev nD) → RDat τ (Elt F) Unit ℕ (UR sig nD τ) ℕ (Pipeline.pin (pcfgs (F := F)) adm p) c
  | ⟨0, _⟩ => fun c => (dat0 (V1 m ρ) c).toR
  | ⟨1, _⟩ => fun c => rd1 m ρ c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A host stretch from contents under a witness. -/
abbrev hsegEx (ops : List (HloOp τ sig (Elt F))) (hsub : ops.Forall fun op => op.bufs ⊆ StableHlo.tcRefs τ sig)
    (hfresh : ops.Forall fun op => op.fresh = ∅) (W : (c : Dev nD) → Γ m ρ c → Valuation τ sig (Elt F)) :
    Pipeline.HostSeg (Name := ℕ) (U := UR sig nD τ) (pcfgs (F := F)) defs₀ 𝒱₀ L lv :=
  Pipeline.HostSeg.ofOpsEx _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop((∃ γ : Γ m ρ c, StableHlo.held (c : Thread nD τ) (Pipeline.ucRefs τ sig) (W5 m ρ c γ)) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := RDat.arrays_of_unscopedBufs (p := 0) (pcfgs (F := F)) adm (rdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]
      · iapply ((dat0 (V1 m ρ) c).toR_arraysAt_post cfg0.N); iexact Ha
      · iexact Hrest
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4` of some witness
    (what the next segment is entered from). Its arrays split out of the unscoped buffers
    (`arrays_of_unscopedBufs`) and put back at the exit contents (`unscopedBufs_of_arrays`); the generator register into the
    class invariant `ΦA` and out; nothing owed; no semaphore of the kernel's own. -/
def reg1 : RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toRRel
  hwaits := RDat.hwaits_of_owed_zero _ _ _ _ L lv 1 fun _ _ => rfl
  pre c := iprop(StableHlo.held (c : Thread nD τ) (Pipeline.ucRefs τ sig) (W3 m ρ c) ∗ R c)
  post c := iprop((∃ γ : Γ m ρ c, StableHlo.held (c : Thread nD τ) (Pipeline.ucRefs τ sig) (W4 m ρ c γ)) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := RDat.arrays_of_unscopedBufs (p := 1) (pcfgs (F := F)) adm (rdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun γ : Γ m ρ c => Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c γ) γ.1 (fun w => (W4_arr m ρ c γ w).symm) (hrest1 m ρ c γ)
    simp only [Pipeline.unscopedBufs_held] at hjoin
    have hx : ((rdats m ρ 1 c).arraysAt (Pipeline.pin (pcfgs (F := F)) adm 1).N : sProp 𝕄)
        ⊢ iprop(∃ γ : Γ m ρ c, (dat1 (V3 m ρ) c).arrays γ.1) := arrays1_exit m ρ c
    iintro ⟨Ha, HO, HY, Hrest⟩
    imodintro
    isplitl [Ha Hrest]
    · ihave Ha := hx $$ Ha
      icases Ha with ⟨%γ, Ha⟩
      iexists γ
      iapply (hjoin γ)
      isplitl [Ha]
      · iexact Ha
      · iexact Hrest
    isplitl [HY]; · iexact HY
    unfold Pipeline.RDat.owesAt Pipeline.owesWithin
    icases HO with ⟨%W, -, HO⟩; iexists W; iexact HO

/-! ## @main as segments, and the launch -/

/-- @main's 5 segments in order: a host segment per stretch from its boundary's contents, a region per pallas_call. -/
abbrev segs : List (RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hsegEx m ρ hostOps2 hostOps2_sub hostOps2_fresh (W4 m ρ)) ]
/-- @main IS the run of the segments: `main_chain`, then the segments' run against that chain by the kernel's
    definitional check (`chain_rfl`). -/
theorem main_run (c : Dev nD) : main (F := F) c = RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- EVERY BUFFER AT THE END: from any memory with zero counters every weakly fair execution of @main terminates, nothing
    faulting, and every final state has each unscoped buffer at `W5` of some witness and every semaphore counter at zero. -/
theorem run_out : θ_run defs (onTc (τ := τ) (main (F := F))) ⟨m, fun _ => 0, ρ⟩ (fun r => (∀ c : Dev nD,
      ∃ γ : Γ m ρ c, ∀ b ∈ Pipeline.ucRefs τ sig, r.2.mem (((c : Thread nD τ)).1, b) = W5 m ρ c γ b)
      ∧ r.2.sem = fun _ => 0) :=
  RDat.θ_run_regions_kit_sems (pcfgs (F := F)) adm (rdats m ρ) () cellOf_inj emb₁ defs₀ 𝒱₀ L lv m ρ main (segs m ρ)
    (fun c Q => by rw [main_run m ρ c])
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [RDat.Seg.post, hsegEx, Pipeline.HostSeg.ofOpsEx]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ γ : Γ m ρ c, ∀ b ∈ Pipeline.ucRefs τ sig, s.mem (((c : Thread nD τ)).1, b) = W5 m ρ c γ b)
    (hfin := fun c s' => by
      iintro ⟨⟨⟨%γ, Hh⟩, -⟩, HSI⟩
      unfold StableHlo.held
      imodintro
      ihave H := (pointsTo_read_all (Pipeline.ucRefs τ sig) (fun b => (((c : Thread nD τ)).1, b)) (W5 m ρ c γ) s') $$ [Hh HSI]
      · isplitl [Hh] <;> iassumption
      icases H with ⟨%hb, HSI⟩
      isplitr
      · ipureintro; exact ⟨γ, hb⟩
      iexact HSI)
    (hQ := fun s h hz => ⟨h, funext fun g => hz g (.inr (no_unscoped g.2))⟩)

/-- THE FRAME: the argument arrays end as launched and every semaphore counter of the machine ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    obtain ⟨γ, hb⟩ := h.1 c
    have key : ∀ a ∈ argRefs, ¬ (Proc.devRef .tc a : DevRef τ sig).isScoped → r.2.mem ((c.tc : Thread nD τ).loc a) = m ((c.tc : Thread nD τ).loc a) :=
      fun a ha hs => (hb _ (mem_uc a hs)).trans (W5_args m ρ c γ a ha)
    exact ⟨key main_arg0 (by decide) (by decide), key main_arg1 (by decide) (by decide), key main_arg2 (by decide) (by decide),
      key main_arg3 (by decide) (by decide), key main_arg4 (by decide) (by decide), key main_arg5 (by decide) (by decide),
      key main_arg6 (by decide) (by decide)⟩, h.2⟩) (run_out m ρ)

end Cert.KernelIdeal.Run
-- ==== Proof.Rows.lean ====
/-
  The mathematics of one row, on extended reals, free of any program: a row of `d` activations is centred, scaled by the
  reciprocal root of its variance plus a small constant, modulated by `1 + scale` and `shift`, and its greatest
  magnitude gives the row's unit for the quantiser.
-/
module

public import Idealize.ShloMosaic.PureOps.Ideal

@[expose] public section

noncomputable section

namespace Cert.Rows

open Idealize.ShloMosaic

variable {n : Nat}

/-- The width of a row, 3328, as the float constant both programs divide by. -/
abbrev cWidth : EReal := Ideal.ofBits .f32 0x45500000#32
/-- The constant `1e-6` added to the variance. -/
abbrev cEps : EReal := Ideal.ofBits .f32 0x358637BD#32
/-- The constant nearest `1/448`, one over the greatest finite code. -/
abbrev cUnit : EReal := Ideal.ofBits .f32 0x3B124925#32

/-- Minus infinity, where the running maximum starts. -/
abbrev cBot : EReal := Ideal.ofBits .f32 0xFF800000#32

/-- The row minus its mean. -/
def cen (r : Fin n → EReal) (k : Fin n) : EReal := r k - Ideal.div (∑ i, r i) cWidth

/-- One over the root of the row's variance plus the small constant. -/
def rstd (r : Fin n → EReal) : EReal := Ideal.rsqrt (Ideal.div (∑ i, cen r i * cen r i) cWidth + cEps)

/-- The modulated row: normalised, times `1 + scale`, plus `shift`. -/
def hid (r sc sh : Fin n → EReal) (k : Fin n) : EReal := cen r k * rstd r * (1 + sc k) + sh k

/-- The greatest magnitude of the modulated row, times the constant nearest one over the greatest code. -/
def amax (r sc sh : Fin n → EReal) : EReal :=
  Finset.univ.fold max cBot (fun k => max (hid r sc sh k) (-hid r sc sh k)) * cUnit

/-- The reference's exponent of a row whose greatest magnitude over 448 is `v`: the least `e` with `v < 2 ^ e`, as
    `⌊log₂ v⌋ + 1`; zero where `v` is below the least normal number. -/
def refExponent (v : EReal) : EReal :=
  if v < Ideal.ofBits .f32 0x00800000#32 then 0
  else Ideal.liftRound Int.floor (Ideal.div (Ideal.log v) (Ideal.log (Ideal.ofBits .f32 0x40000000#32))) + 1

end Cert.Rows

end
-- ==== Proof.KernelRows.lean ====
/-
  What the kernel's first body computes, read at an index of its block of 256 rows: the modulated row and its greatest
  magnitude over 448 are the row functions of `Proof/Rows.lean`.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Read

open Cert.KernelIdeal Cert.KernelIdeal.Gen Idealize.ShloMosaic
open Idealize.ShloMosaic.ValueIdx (mulf_apply)

variable (x : Vec Ideal S256x3328 .bf16) (sc sh : Vec Ideal S1x3328 .bf16)

/-- The modulated block at row `p`, column `q` is the modulated row of the block's row `p`. -/
theorem hid_apply (p : Fin 256) (q : Fin 3328) :
    k0_pay3 (F := Ideal) x sc sh (ix2 p q)
      = Rows.hid (fun k => x (ix2 p k)) (fun k => sc (ix2 0 k)) (fun k => sh (ix2 0 k)) q := by
  pointwise [k0_pay3]
  rfl

/-- The greatest magnitude of each row of a block, kept as a column, at row `p`. -/
theorem rowMax_apply (H : FVec Ideal S256x3328 .f32) (p : Fin 256) :
    shapeCast S256x1 (multiReduction .maximumf [1] S256 (absf H) 0xFF800000#32 reduces_S256x3328_S256 (.inl rfl) rfl)
        shapeCasts_S256_S256x1 (ix2 p 0)
      = Finset.univ.fold max Rows.cBot (fun k => max (H (ix2 p k)) (-H (ix2 p k))) := by
  pointwise []
  simp only [Ideal.absf_def]

/-- The block's column of greatest magnitudes times the unit constant, at row `p`. -/
theorem amax_apply (p : Fin 256) :
    k0_pay4 (F := Ideal) x sc sh (ix2 p 0)
      = Rows.amax (fun k => x (ix2 p k)) (fun k => sc (ix2 0 k)) (fun k => sh (ix2 0 k)) := by
  have h := rowMax_apply (k0_pay3 (F := Ideal) x sc sh) p
  rw [funext (fun k => congrArg (fun z => max z (-z)) (hid_apply x sc sh p k))] at h
  rw [k0_pay4, mulf_apply, h]
  rfl

end Cert.KernelIdeal.Read

end
-- ==== Proof.Exponent.lean ====
/-
  The exponent of a row's unit, computed in two ways. The kernel searches the biased exponent field of a float bit by bit,
  comparing with the power of two that each trial field denotes; the reference writes `⌊log₂ v⌋ + 1`. On every real
  `0 ≤ v < 2 ^ 126` both give one power of two, and one reciprocal of it.
-/
module

public import proofs.«01_k».proof.Proof.Rows
public import Mathlib.Analysis.SpecialFunctions.Log.Basic

@[expose] public section

noncomputable section

namespace Cert.Rows

open Idealize.ShloMosaic

/-- The float whose exponent field is `e + 127` and whose other fields are zero: `2 ^ e` for a small signed word `e`. -/
def powWord (e : BitVec 32) : EReal := Ideal.ofBits .f32 (IntOp.shli .vector (IntOp.addi e 127#32) 23#32)

/-- One step of the search: the field `b` with the bit `t` added, where `v` is at least the power it denotes. -/
def step (v : EReal) (t b : BitVec 32) : BitVec 32 :=
  Scalar.select (Ideal.cmp .oge v (powWord (IntOp.subi (IntOp.addi b t) 127#32))) (IntOp.addi b t) b

/-- The exponent field of `v`: eight steps, from the highest bit down. -/
def search (v : EReal) : BitVec 32 :=
  step v 1#32 (step v 2#32 (step v 4#32 (step v 8#32 (step v 16#32 (step v 32#32 (step v 64#32 (step v 128#32 0#32)))))))

/-- The kernel's exponent of a row whose greatest magnitude over 448 is `v`. -/
def kerExponent (v : EReal) : BitVec 32 :=
  Scalar.select (IntOp.cmpi .eq (search v) 0#32) 0#32 (IntOp.subi (search v) 126#32)

/-- The value of the float with exponent field `n` and no other bit set, `0 < n ≤ 255`. -/
def fieldPow (n : Nat) : EReal := if n < 255 then (((2 : ℝ) ^ ((n : ℤ) - 127) : ℝ) : EReal) else ⊤

theorem fieldPow_of_lt {n : Nat} (h : n < 255) : fieldPow n = (((2 : ℝ) ^ ((n : ℤ) - 127) : ℝ) : EReal) := if_pos h

theorem fieldPow_mono {a b : Nat} (h : a ≤ b) : fieldPow a ≤ fieldPow b := by
  by_cases hb : b < 255
  · rw [fieldPow_of_lt hb, fieldPow_of_lt (lt_of_le_of_lt h hb), EReal.coe_le_coe_iff]
    exact zpow_le_zpow_right₀ (by norm_num) (by omega)
  · rw [fieldPow, fieldPow, if_neg hb]; exact le_top

/-- The fields of a word that is an exponent field alone. -/
theorem fields : ∀ n : Fin 256, (BitVec.ofNat 32 n.val <<< 23).extractLsb' 23 8 = BitVec.ofNat 8 n.val
    ∧ (BitVec.ofNat 32 n.val <<< 23).extractLsb' 0 23 = 0#23 ∧ (BitVec.ofNat 32 n.val <<< 23).extractLsb' 31 1 = 0#1 := by
  decide +kernel

/-- A word that is an exponent field `n` alone denotes `fieldPow n`. -/
theorem ofBits_field {n : Nat} (h0 : 0 < n) (h : n ≤ 255) :
    Ideal.ofBits .f32 (BitVec.ofNat 32 n <<< 23) = fieldPow n := by
  obtain ⟨h1, h2, h3⟩ := fields ⟨n, by omega⟩
  have hx : (BitVec.ofNat 8 n).toNat = n := by rw [BitVec.toNat_ofNat]; omega
  show Ideal.ieee 8 23 (BitVec.ofNat 32 n <<< 23) = _
  simp only [Ideal.ieee]
  rw [show (BitVec.extractLsb' (8 + 23) 1 (BitVec.ofNat 32 n <<< 23)) = 0#1 from h3, h1, h2, hx]
  by_cases hn : n = 255
  · subst hn; simp [fieldPow]
  · rw [if_neg (by omega), if_neg (by omega), fieldPow_of_lt (by omega)]
    congr 1
    have : (2 : ℝ) ^ ((n : ℤ) - 127 - 23) = 2 ^ ((n : ℤ) - 127) * (2 ^ (23 : ℕ))⁻¹ := by
      rw [← zpow_natCast, ← zpow_neg, ← zpow_add₀ (by norm_num)]
      congr 1
    simp only [show ((0#1 : BitVec 1) == 1#1) = false from rfl, Bool.false_eq_true, if_false]
    norm_num
    rw [this]
    norm_num
    ring

/-- `powWord` of a word whose biased form is the natural `n`. -/
theorem powWord_eq {e : BitVec 32} {n : Nat} (he : e + 127#32 = BitVec.ofNat 32 n) (h0 : 0 < n) (h : n ≤ 255) :
    powWord e = fieldPow n := by
  rw [← ofBits_field h0 h, ← he]
  rfl

/-- What one step does: from a field `B` that is a lower bound, with `v` below the field `B + 2 t`, to a field within `t`. -/
theorem step_spec {v : EReal} {t B : Nat} {b : BitVec 32} (hb : b = BitVec.ofNat 32 B) (ht : 0 < t) (hB : B + t ≤ 255)
    (hlo : B = 0 ∨ fieldPow B ≤ v) (hhi : v < fieldPow (B + (t + t))) :
    ∃ B', step v (BitVec.ofNat 32 t) b = BitVec.ofNat 32 B' ∧ B' ≤ B + t ∧ (B' = 0 ∨ fieldPow B' ≤ v) ∧ v < fieldPow (B' + t) := by
  subst hb
  have hadd : IntOp.addi (BitVec.ofNat 32 B) (BitVec.ofNat 32 t) = BitVec.ofNat 32 (B + t) := (BitVec.ofNat_add ..).symm
  have hp : powWord (IntOp.subi (BitVec.ofNat 32 (B + t)) 127#32) = fieldPow (B + t) :=
    powWord_eq (BitVec.sub_add_cancel _ _) (by omega) hB
  unfold step
  rw [hadd, hp]
  by_cases hv : fieldPow (B + t) ≤ v
  · have hc : Ideal.cmp .oge v (fieldPow (B + t)) = 1#1 := by simp [Ideal.cmp, hv]
    exact ⟨B + t, by rw [hc]; rfl, le_rfl, Or.inr hv, by rwa [Nat.add_assoc]⟩
  · have hc : Ideal.cmp .oge v (fieldPow (B + t)) = 0#1 := by simp [Ideal.cmp, hv]
    exact ⟨B, by rw [hc]; rfl, by omega, hlo, not_le.mp hv⟩

/-- The search finds the field of `v`: the greatest `B` whose power is at most `v`, or zero where there is none. -/
theorem search_spec {v : EReal} (hv : v < ⊤) :
    ∃ B, search v = BitVec.ofNat 32 B ∧ B ≤ 255 ∧ (B = 0 ∨ fieldPow B ≤ v) ∧ v < fieldPow (B + 1) := by
  have h0 : v < fieldPow (0 + (128 + 128)) := by simpa [fieldPow] using hv
  obtain ⟨a, ea, la, oa, ha⟩ := step_spec (v := v) (t := 128) (B := 0) (b := 0#32) rfl (by omega) (by omega) (Or.inl rfl) h0
  obtain ⟨b, eb, lb, ob, hb⟩ := step_spec (t := 64) ea (by omega) (by omega) oa ha
  obtain ⟨c, ec, lc, oc, hc⟩ := step_spec (t := 32) eb (by omega) (by omega) ob hb
  obtain ⟨d, ed, ld, od, hd⟩ := step_spec (t := 16) ec (by omega) (by omega) oc hc
  obtain ⟨e, ee, le, oe, he⟩ := step_spec (t := 8) ed (by omega) (by omega) od hd
  obtain ⟨f, ef, lf, of, hf⟩ := step_spec (t := 4) ee (by omega) (by omega) oe he
  obtain ⟨g, eg, lg, og, hg⟩ := step_spec (t := 2) ef (by omega) (by omega) of hf
  obtain ⟨h, eh, lh, oh, hh⟩ := step_spec (t := 1) eg (by omega) (by omega) og hg
  exact ⟨h, eh, by omega, oh, hh⟩

/-- The least normal number is the power with exponent field one. -/
theorem ofBits_least : Ideal.ofBits .f32 0x00800000#32 = fieldPow 1 := ofBits_field (n := 1) (by omega) (by omega)

/-- The float constant two. -/
theorem ofBits_two : Ideal.ofBits .f32 0x40000000#32 = ((2 : ℝ) : EReal) := by
  rw [show (0x40000000#32 : BitVec 32) = BitVec.ofNat 32 128 <<< 23 by decide]
  rw [show Ideal.ofBits .f32 (BitVec.ofNat 32 128 <<< 23) = fieldPow 128 from ofBits_field (by omega) (by omega),
    fieldPow_of_lt (by omega)]
  norm_num

theorem exp2_int (k : ℤ) : Ideal.exp2 (((k : ℝ)) : EReal) = (((2 : ℝ) ^ k : ℝ) : EReal) := by
  rw [Ideal.exp2_coe]; congr 1; exact Real.rpow_intCast 2 k

/-- Where `v` lies between two successive powers, the reference's exponent is the upper one. -/
theorem refExponent_eq {r : ℝ} {B : Nat} (h0 : 0 < B) (h : B < 254) (hlo : (2 : ℝ) ^ ((B : ℤ) - 127) ≤ r)
    (hhi : r < (2 : ℝ) ^ ((B : ℤ) - 126)) : refExponent (r : EReal) = ((((B : ℤ) - 126 : ℤ) : ℝ) : EReal) := by
  have hr : 0 < r := lt_of_lt_of_le (by positivity) hlo
  have h2 : (0 : ℝ) < Real.log 2 := Real.log_pos (by norm_num)
  have hn : ¬ ((r : EReal) < Ideal.ofBits .f32 0x00800000#32) := by
    rw [ofBits_least, not_lt]
    refine (fieldPow_mono h0).trans ?_
    rw [fieldPow_of_lt (by omega), EReal.coe_le_coe_iff]; exact hlo
  have hfl : ⌊Real.log r / Real.log 2⌋ = (B : ℤ) - 127 := by
    rw [Int.floor_eq_iff, le_div_iff₀ h2, div_lt_iff₀ h2]
    constructor
    · rw [← Real.log_zpow]; exact Real.log_le_log (by positivity) hlo
    · have : (((B : ℤ) - 127 : ℤ) : ℝ) + 1 = (((B : ℤ) - 126 : ℤ) : ℝ) := by push_cast; ring
      rw [this, ← Real.log_zpow]; exact Real.log_lt_log hr hhi
  rw [refExponent, if_neg hn, ofBits_two, Ideal.log_coe, Ideal.log_coe, if_neg (not_le.mpr hr), if_neg (by norm_num),
    Ideal.div_coe h2.ne', ← EReal.coe_mul, Ideal.liftRound_coe, mul_one_div, hfl]
  rw [← EReal.coe_one, ← EReal.coe_add]
  congr 1
  push_cast; ring

/-- THE UNIT OF A ROW: the kernel's power of two is the reference's, and so is its reciprocal. -/
theorem unit_eq {v : EReal} (hv0 : 0 ≤ v) (hv : v < fieldPow 253) :
    powWord (kerExponent v) = Ideal.exp2 (refExponent v)
      ∧ powWord (IntOp.subi 0#32 (kerExponent v)) = Ideal.exp2 (0 - refExponent v) := by
  obtain ⟨B, hs, hB, hlo, hhi⟩ := search_spec (lt_of_lt_of_le hv le_top)
  rcases Nat.eq_zero_or_pos B with rfl | hpos
  · have hk : kerExponent v = 0#32 := by rw [kerExponent, hs]; rfl
    have hr : refExponent v = 0 := if_pos (by rw [ofBits_least]; exact hhi)
    have h1 : fieldPow 127 = 1 := by rw [fieldPow_of_lt (by omega)]; norm_num
    have h2 : Ideal.exp2 0 = 1 := by
      have := exp2_int 0
      simpa using this
    rw [hk, hr, powWord_eq (n := 127) rfl (by omega) (by omega),
      powWord_eq (e := IntOp.subi 0#32 0#32) (n := 127) rfl (by omega) (by omega), sub_zero, h1, h2]
    exact ⟨rfl, rfl⟩
  · have hlo' : fieldPow B ≤ v := hlo.resolve_left (by omega)
    have hBlt : B < 253 := by
      by_contra hge
      exact absurd (lt_of_le_of_lt hlo' hv) (not_lt.mpr (fieldPow_mono (by omega)))
    have hk : kerExponent v = BitVec.ofNat 32 B - 126#32 := by
      have hne : BitVec.ofNat 32 B ≠ 0#32 := by
        intro hc
        have := congrArg BitVec.toNat hc
        simp only [BitVec.toNat_ofNat] at this
        omega
      rw [kerExponent, hs]
      have : IntOp.cmpi .eq (BitVec.ofNat 32 B) 0#32 = 0#1 := by
        show BitVec.ofBool (BitVec.ofNat 32 B == 0#32) = 0#1
        rw [beq_eq_false_iff_ne.mpr hne]; rfl
      rw [this]; rfl
    lift v to ℝ using ⟨(lt_of_lt_of_le hv le_top).ne, fun hb => by subst hb; simp at hv0⟩ with r
    rw [fieldPow_of_lt (by omega), EReal.coe_le_coe_iff] at hlo'
    rw [fieldPow_of_lt (by omega), EReal.coe_lt_coe_iff] at hhi
    have hhi' : r < (2 : ℝ) ^ ((B : ℤ) - 126) := by
      have : (((B + 1 : ℕ) : ℤ) - 127) = (B : ℤ) - 126 := by push_cast; ring
      rwa [this] at hhi
    have hr := refExponent_eq hpos (by omega) hlo' hhi'
    have e1 : BitVec.ofNat 32 B - 126#32 + 127#32 = BitVec.ofNat 32 (B + 1) := by
      rw [BitVec.ofNat_add]; bv_omega
    have e2 : IntOp.subi 0#32 (BitVec.ofNat 32 B - 126#32) + 127#32 = BitVec.ofNat 32 (253 - B) := by
      show 0#32 - (BitVec.ofNat 32 B - 126#32) + 127#32 = _
      apply BitVec.eq_of_toNat_eq
      bv_omega
    rw [hk, hr, powWord_eq e1 (by omega) (by omega), powWord_eq e2 (by omega) (by omega), fieldPow_of_lt (by omega),
      fieldPow_of_lt (by omega), exp2_int, zero_sub, ← EReal.coe_neg, ← Int.cast_neg, exp2_int]
    constructor
    · congr 2; push_cast; ring
    · congr 2; push_cast [Nat.cast_sub (by omega : B ≤ 253)]; ring

end Cert.Rows

end
-- ==== Proof.KernelQuant.lean ====
/-
  What the kernel's first body leaves in its two result blocks, at an index: the codes and the units, by the row functions
  and the integer exponent of `Proof/Exponent.lean`.
-/
module

public import proofs.«01_k».proof.Proof.KernelRows
public import proofs.«01_k».proof.Proof.Exponent
public import proofs.«01_k».proof.Proof.KernelIdealBody
public import Idealize.ShloMosaic.Lib.Pipeline.Value

@[expose] public section

set_option maxRecDepth 16384

noncomputable section

namespace Cert.Rows

open Idealize.ShloMosaic

/-- The kernel's code of entry `k` of a modulated row. -/
def kerCode {n : Nat} (r sc sh : Fin n → EReal) (k : Fin n) : EReal :=
  min (Ideal.ofBits .f32 0x43E00000#32) (max (Ideal.ofBits .f32 0xC3E00000#32)
    (hid r sc sh k * powWord (IntOp.subi 0#32 (kerExponent (amax r sc sh)))))

/-- The kernel's unit of a modulated row. -/
def kerUnit {n : Nat} (r sc sh : Fin n → EReal) : EReal := powWord (kerExponent (amax r sc sh))

end Cert.Rows

namespace Cert.KernelIdeal.Read

open Cert.KernelIdeal Cert.KernelIdeal.Gen Cert.KernelIdeal.Run Idealize.ShloMosaic

/-- The zero offsets of a block of two axes. -/
theorem hz2 : (![0, 0] : Fin 2 → Nat) = fun _ => 0 := funext fun a => by fin_cases a <;> rfl

/-- One step of the search, on a column. -/
def stepCol (v : FVec Ideal S256x1 .f32) (t : BitVec 32) (b : IVec S256x1 32) : IVec S256x1 32 :=
  select (cmpf .oge v (bitcastToFloat .f32 (shli (addi (subi (addi b (broadcast S256x1 t)) (broadcast S256x1 127#32))
    (broadcast S256x1 127#32)) (broadcast S256x1 23#32)))) (addi b (broadcast S256x1 t)) b

/-- It is the step of `Proof/Exponent.lean` at every row. -/
theorem stepCol_apply (v : FVec Ideal S256x1 .f32) (t : BitVec 32) (b : IVec S256x1 32) (i : S256x1.Idx) :
    stepCol v t b i = Rows.step (v i) t (b i) := rfl

/-- The first four steps. -/
theorem search_high (v : FVec Ideal S256x1 .f32) :
    k0_pay8 v k0_pay5 k0_pay6 k0_pay7
      = stepCol v 16#32 (stepCol v 32#32 (stepCol v 64#32 (stepCol v 128#32 (broadcast S256x1 0#32)))) := by
  dsimp only [k0_pay8, k0_pay7, k0_pay6, k0_pay5, stepCol]

/-- The last four, and the exponent. -/
theorem search_low (v : FVec Ideal S256x1 .f32) (b : IVec S256x1 32) :
    k0_pay11 v b (addi b (broadcast S256x1 8#32))
        (addi (subi (addi b (broadcast S256x1 8#32)) (broadcast S256x1 127#32)) (broadcast S256x1 127#32))
      = select (cmpi .eq (stepCol v 1#32 (stepCol v 2#32 (stepCol v 4#32 (stepCol v 8#32 b)))) (broadcast S256x1 0#32))
          (broadcast S256x1 0#32)
          (subi (stepCol v 1#32 (stepCol v 2#32 (stepCol v 4#32 (stepCol v 8#32 b)))) (broadcast S256x1 126#32)) := by
  dsimp only [k0_pay11, stepCol]

/-- The exponent column at row `p`: the integer exponent of the greatest magnitude over 448 there. -/
theorem exponent_apply (v : FVec Ideal S256x1 .f32) (p : Fin 256) :
    k0_pay11 v (k0_pay8 v k0_pay5 k0_pay6 k0_pay7) (k0_pay9 v k0_pay5 k0_pay6 k0_pay7) (k0_pay10 v k0_pay5 k0_pay6 k0_pay7) (ix2 p 0)
      = Rows.kerExponent (v (ix2 p 0)) := by
  have h := search_low v (k0_pay8 v k0_pay5 k0_pay6 k0_pay7)
  have e : stepCol v 1#32 (stepCol v 2#32 (stepCol v 4#32 (stepCol v 8#32 (k0_pay8 v k0_pay5 k0_pay6 k0_pay7)))) (ix2 p 0)
      = Rows.search (v (ix2 p 0)) := by
    rw [search_high]
    simp only [stepCol_apply]
    rfl
  refine (congrFun h (ix2 p 0)).trans ?_
  rw [Rows.kerExponent, ← e]
  rfl

/-- The unit column at row `p`. -/
theorem unit_apply (e : IVec S256x1 32) (p : Fin 256) : k0_pay1 (F := Ideal) e (ix2 p 0) = Rows.powWord (e (ix2 p 0)) := by
  pointwise [k0_pay1]
  rfl

/-- The codes at row `p`, column `q`. -/
theorem code_apply (h : FVec Ideal S256x3328 .f32) (e : IVec S256x1 32) (p : Fin 256) (q : Fin 3328) :
    k0_pay2 (F := Ideal) h e (ix2 p q)
      = min (Ideal.ofBits .f32 0x43E00000#32) (max (Ideal.ofBits .f32 0xC3E00000#32)
          (h (ix2 p q) * Rows.powWord (IntOp.subi 0#32 (e (ix2 p 0))))) := by
  pointwise [k0_pay2]
  rfl

variable (x : Vec Ideal S256x3328 .bf16) (sc sh : Vec Ideal S1x3328 .bf16)

/-- The exponent column of a block's rows. -/
theorem exponent_block (p : Fin 256) :
    k0_pay16 (F := Ideal) x sc sh (ix2 p 0)
      = Rows.kerExponent (Rows.amax (fun k => x (ix2 p k)) (fun k => sc (ix2 0 k)) (fun k => sh (ix2 0 k))) := by
  unfold k0_pay16 k0_pay12 k0_pay13 k0_pay14 k0_pay15
  rw [exponent_apply, View.ld_unit_zero (S := S256x3328) hz2 _ x, View.ld_unit_zero (S := S1x3328) hz2 _ sc,
    View.ld_unit_zero (S := S1x3328) hz2 _ sh, amax_apply]

/-- THE CODES that the body leaves at row `p`, column `q` of its block. -/
theorem codes_block (p : Fin 256) (q : Fin 3328) :
    out0_3 (F := Ideal) x sc sh (ix2 p q)
      = Rows.kerCode (fun k => x (ix2 p k)) (fun k => sc (ix2 0 k)) (fun k => sh (ix2 0 k)) q := by
  unfold out0_3
  rw [View.canon_unit_zero hz2, View.ld_unit_zero (S := S256x3328) hz2 _ x, View.ld_unit_zero (S := S1x3328) hz2 _ sc,
    View.ld_unit_zero (S := S1x3328) hz2 _ sh, code_apply, hid_apply, exponent_block]
  rfl

/-- THE UNIT that the body leaves at row `p` of its block. -/
theorem units_block (p : Fin 256) :
    out0_4 (F := Ideal) x sc sh (ix2 p 0)
      = Rows.kerUnit (fun k => x (ix2 p k)) (fun k => sc (ix2 0 k)) (fun k => sh (ix2 0 k)) := by
  unfold out0_4
  rw [View.canon_unit_zero hz2, unit_apply, exponent_block]
  rfl

end Cert.KernelIdeal.Read

end
-- ==== Proof.KernelQuantArray.lean ====
/-
  What the arrays of the kernel's first region hold after it: point `t` writes rows `256 t … 256 t + 255`, so the codes and
  the units at row `p` are those of the modulated row `p`.
-/
module

public import proofs.«01_k».proof.Proof.KernelQuant

@[expose] public section

set_option maxRecDepth 16384

noncomputable section

namespace Cert.KernelIdeal.Read

open Cert.KernelIdeal Cert.KernelIdeal.Gen Cert.KernelIdeal.Run Idealize.ShloMosaic Idealize.ShloMosaic.TcCoe
open Idealize.ShloMosaic.Pipeline (Dat)

/-- The codes of all rows. -/
def codes (x : Vec Ideal S8192x3328 .bf16) (sc sh : Vec Ideal S1x3328 .bf16) : Vec Ideal S8192x3328 .fp8e4m3 :=
  fun i => Rows.kerCode (fun k => x (ix2 (i 0 : Fin 8192) k)) (fun k => sc (ix2 0 k)) (fun k => sh (ix2 0 k)) (i 1 : Fin 3328)

/-- The units of all rows. -/
def units (x : Vec Ideal S8192x3328 .bf16) (sc sh : Vec Ideal S1x3328 .bf16) : Vec Ideal S8192x1 .f32 :=
  fun i => Rows.kerUnit (fun k => x (ix2 (i 0 : Fin 8192) k)) (fun k => sc (ix2 0 k)) (fun k => sh (ix2 0 k))

/-! ## Where a block's element lies -/

/-- The block indices of the five windows at a point. -/
theorem index0 : ∀ t : Fin cfg0.N,
    (win0_0.index t (0 : Fin 2) = t.val ∧ win0_0.index t (1 : Fin 2) = 0)
      ∧ (win0_1.index t (0 : Fin 2) = 0 ∧ win0_1.index t (1 : Fin 2) = 0)
      ∧ (win0_2.index t (0 : Fin 2) = 0 ∧ win0_2.index t (1 : Fin 2) = 0)
      ∧ (win0_3.index t (0 : Fin 2) = t.val ∧ win0_3.index t (1 : Fin 2) = 0)
      ∧ (win0_4.index t (0 : Fin 2) = t.val ∧ win0_4.index t (1 : Fin 2) = 0) :=
  (by decide +kernel : ∀ t : Fin grid0.N, _)

/-- Row `p` of point `t`'s block, as a row of the array. -/
def row0 (t : Fin cfg0.N) (p : Fin 256) : Fin 8192 :=
  ⟨t.val * 256 + p.val, by have h : t.val < 32 := N_0 ▸ t.isLt; have := p.isLt; omega⟩

theorem emb0_0 (t : Fin cfg0.N) (p : Fin 256) (q : Fin 3328) :
    ((cfg0.win 0).blk t).view.emb (ix2 p q) = (ix2 (row0 t p) q : S8192x3328.Idx) := by
  obtain ⟨⟨e0, e1⟩, -⟩ := index0 t
  funext a; apply Fin.ext
  match a with
  | ⟨0, _⟩ => show win0_0.index t (0 : Fin 2) * 256 + 1 * p.val = t.val * 256 + p.val; omega
  | ⟨1, _⟩ => show win0_0.index t (1 : Fin 2) * 3328 + 1 * q.val = q.val; omega

theorem emb0_1 (t : Fin cfg0.N) (j : S1x3328.Idx) : ((cfg0.win 1).blk t).view.emb j = j := by
  obtain ⟨-, ⟨e0, e1⟩, -⟩ := index0 t
  funext a; apply Fin.ext
  match a with
  | ⟨0, _⟩ => show win0_1.index t (0 : Fin 2) * 1 + 1 * (j 0).val = (j 0).val; omega
  | ⟨1, _⟩ => show win0_1.index t (1 : Fin 2) * 3328 + 1 * (j 1).val = (j 1).val; omega

theorem emb0_2 (t : Fin cfg0.N) (j : S1x3328.Idx) : ((cfg0.win 2).blk t).view.emb j = j := by
  obtain ⟨-, -, ⟨e0, e1⟩, -⟩ := index0 t
  funext a; apply Fin.ext
  match a with
  | ⟨0, _⟩ => show win0_2.index t (0 : Fin 2) * 1 + 1 * (j 0).val = (j 0).val; omega
  | ⟨1, _⟩ => show win0_2.index t (1 : Fin 2) * 3328 + 1 * (j 1).val = (j 1).val; omega

theorem emb0_3 (t : Fin cfg0.N) (p : Fin 256) (q : Fin 3328) :
    ((cfg0.win 3).blk t).view.emb (ix2 p q) = (ix2 (row0 t p) q : S8192x3328.Idx) := by
  obtain ⟨-, -, -, ⟨e0, e1⟩, -⟩ := index0 t
  funext a; apply Fin.ext
  match a with
  | ⟨0, _⟩ => show win0_3.index t (0 : Fin 2) * 256 + 1 * p.val = t.val * 256 + p.val; omega
  | ⟨1, _⟩ => show win0_3.index t (1 : Fin 2) * 3328 + 1 * q.val = q.val; omega

theorem emb0_4 (t : Fin cfg0.N) (p : Fin 256) :
    ((cfg0.win 4).blk t).view.emb (ix2 p (0 : Fin 1)) = (ix2 (row0 t p) (0 : Fin 1) : S8192x1.Idx) := by
  obtain ⟨-, -, -, -, ⟨e0, e1⟩⟩ := index0 t
  funext a; apply Fin.ext
  match a with
  | ⟨0, _⟩ => show win0_4.index t (0 : Fin 2) * 256 + 1 * p.val = t.val * 256 + p.val; omega
  | ⟨1, _⟩ => show win0_4.index t (1 : Fin 2) * 1 + 1 * 0 = 0; omega

/-- Every row of the array is a row of some point's block. -/
theorem row0_surj (r : Fin 8192) : ∃ t p, row0 t p = r :=
  ⟨⟨r.val / 256, by rw [show cfg0.N = 32 from N_0]; have := r.isLt; omega⟩, ⟨r.val % 256, by omega⟩,
    Fin.ext (by show r.val / 256 * 256 + r.val % 256 = r.val; omega)⟩

/-! ## The arrays -/

variable (V : (c : Dev nD) → (b : Ref sig .tc) → Buf (Elt Ideal) ((c : Thread nD τ).loc b)) (c : Dev nD)

theorem iblk0_0 (t : Fin cfg0.N) (p : Fin 256) (q : Fin 3328) :
    iblk0 V c 0 t (ix2 p q) = V c main_v0 (ix2 (row0 t p) q) := by
  show V c main_v0 (((cfg0.win 0).blk t).view.emb (ix2 p q)) = _; rw [emb0_0]

theorem iblk0_1 (t : Fin cfg0.N) : iblk0 V c 1 t = V c main_arg2 := by
  funext j; show V c main_arg2 (((cfg0.win 1).blk t).view.emb j) = _; rw [emb0_1]

theorem iblk0_2 (t : Fin cfg0.N) : iblk0 V c 2 t = V c main_arg1 := by
  funext j; show V c main_arg1 (((cfg0.win 2).blk t).view.emb j) = _; rw [emb0_2]

/-- The codes that point `t` writes back are its rows of `codes`. -/
theorem flushed0_3 (t : Fin cfg0.N) :
    (dat0 V c).flushed 3 t = ((cfg0.win 3).blk t).view.read (Elt Ideal) (codes (V c main_v0) (V c main_arg2) (V c main_arg1)) := by
  show (cfg0.win 3).cut (grid0.coords t) ((dat0 V c).after 3 t) = _
  rw [after0_3, iblk0_1, iblk0_2]
  funext j
  show out0_3 (iblk0 V c 0 t) (V c main_arg2) (V c main_arg1) j
    = codes (V c main_v0) (V c main_arg2) (V c main_arg1) (((cfg0.win 3).blk t).view.emb j)
  obtain ⟨p, q, rfl⟩ : ∃ (p : Fin 256) (q : Fin 3328), j = ix2 p q := ⟨j 0, j 1, eq_ix2 j⟩
  rw [codes_block, emb0_3, funext (fun k => iblk0_0 V c t p k)]
  rfl

/-- The units that point `t` writes back are its rows of `units`. -/
theorem flushed0_4 (t : Fin cfg0.N) :
    (dat0 V c).flushed 4 t = ((cfg0.win 4).blk t).view.read (Elt Ideal) (units (V c main_v0) (V c main_arg2) (V c main_arg1)) := by
  show (cfg0.win 4).cut (grid0.coords t) ((dat0 V c).after 4 t) = _
  rw [after0_4, iblk0_1, iblk0_2]
  funext j
  show out0_4 (iblk0 V c 0 t) (V c main_arg2) (V c main_arg1) j
    = units (V c main_v0) (V c main_arg2) (V c main_arg1) (((cfg0.win 4).blk t).view.emb j)
  obtain ⟨p, rfl⟩ : ∃ p : Fin 256, j = ix2 p (0 : Fin 1) :=
    ⟨j 0, by rw [eq_ix2 j]; exact congrArg (ix2 (j 0)) (Subsingleton.elim (α := Fin 1) _ _)⟩
  rw [units_block, emb0_4, funext (fun k => iblk0_0 V c t p k)]
  rfl

theorem covered0_3 (i : S8192x3328.Idx) : ∃ t : Fin cfg0.N, (cfg0.win 3).flush t = true ∧ i ∈ ((cfg0.win 3).blk t).view.set := by
  obtain ⟨r, q, rfl⟩ : ∃ (r : Fin 8192) (q : Fin 3328), i = ix2 r q := ⟨i 0, i 1, eq_ix2 i⟩
  obtain ⟨t, p, rfl⟩ := row0_surj r
  refine ⟨t, flush0_3 t, ?_⟩
  have h := ((cfg0.win 3).blk t).view.emb_mem_set (ix2 p q)
  rwa [emb0_3] at h

theorem covered0_4 (i : S8192x1.Idx) : ∃ t : Fin cfg0.N, (cfg0.win 4).flush t = true ∧ i ∈ ((cfg0.win 4).blk t).view.set := by
  obtain ⟨r, rfl⟩ : ∃ r : Fin 8192, i = ix2 r (0 : Fin 1) :=
    ⟨i 0, by rw [eq_ix2 i]; exact congrArg (ix2 (i 0)) (Subsingleton.elim (α := Fin 1) _ _)⟩
  obtain ⟨t, p, rfl⟩ := row0_surj r
  refine ⟨t, flush0_4 t, ?_⟩
  have h := ((cfg0.win 4).blk t).view.emb_mem_set (ix2 p (0 : Fin 1))
  rwa [emb0_4] at h

/-- THE CODES ARRAY after the region. -/
theorem final0_3 : (dat0 V c).arrAt 3 cfg0.N = codes (V c main_v0) (V c main_arg2) (V c main_arg1) :=
  (dat0 V c).arrAt_eq_of_cover 3 _ (fun t _ => flushed0_3 V c t) covered0_3

/-- THE UNITS ARRAY after the region. -/
theorem final0_4 : (dat0 V c).arrAt 4 cfg0.N = units (V c main_v0) (V c main_arg2) (V c main_arg1) :=
  (dat0 V c).arrAt_eq_of_cover 4 _ (fun t _ => flushed0_4 V c t) covered0_4

end Cert.KernelIdeal.Read

end
-- ==== Proof.KernelTile.lean ====
/-
  What the kernel's second body computes, read at an index of its 2048 × 1280 block of the result.
-/
module

public import proofs.«01_k».proof.Proof.Gen.KernelIdeal.Skeleton
public import Idealize.ShloMosaic.Lib.Pointwise

@[expose] public section

set_option maxRecDepth 16384

noncomputable section

namespace Cert.KernelIdeal.Read

open Cert.KernelIdeal Cert.KernelIdeal.Gen Idealize.ShloMosaic

/-- Row `p`, column `q` of the block: the product of the codes' row with the weights' column, times the row's unit and
    the column's scale, plus the column's bias, times the column's gate. -/
theorem tile_apply (a : Vec Ideal S2048x3328 .fp8e4m3) (w : Vec Ideal S3328x1280 .fp8e4m3) (hs : Vec Ideal S2048x1 .f32)
    (ws : Vec Ideal S1x1280 .f32) (bi g : Vec Ideal S1x1280 .bf16) (p : Fin 2048) (q : Fin 1280) :
    k1_pay1 (F := Ideal) a w hs ws bi g (ix2 p q)
      = ((∑ k, a (ix2 p k) * w (ix2 k q)) * hs (ix2 p 0) * ws (ix2 0 q) + bi (ix2 0 q)) * g (ix2 0 q) := by
  pointwise [k1_pay1]

end Cert.KernelIdeal.Read

end
-- ==== Proof.KernelProductArray.lean ====
/-
  What the array of the kernel's second region holds after it: point `t` writes rows `2048 (t mod 4) …` and columns
  `1280 (t div 4) …` of the result, and the columns inside the array are read from columns inside the arrays alone, so what
  lies past their ends in the staging buffers does not show in the result.
-/
module

public import proofs.«01_k».proof.Proof.KernelTile
public import proofs.«01_k».proof.Proof.KernelIdealBody
public import Idealize.ShloMosaic.Lib.Pipeline.Value
public import Idealize.ShloMosaic.Lib.Pipeline.ArrRel

@[expose] public section

set_option maxRecDepth 16384

noncomputable section

namespace Cert.KernelIdeal.Read

open Cert.KernelIdeal Cert.KernelIdeal.Gen Cert.KernelIdeal.Run Idealize.ShloMosaic Idealize.ShloMosaic.TcCoe
open Idealize.ShloMosaic.Pipeline (Dat RDat)

/-- The whole result: the product of the codes with the weights, times the rows' units and the columns' scales, plus the bias,
    times the gate. -/
def product (a : Vec Ideal S8192x3328 .fp8e4m3) (w : Vec Ideal S3328x31872 .fp8e4m3) (hs : Vec Ideal S8192x1 .f32)
    (ws : Vec Ideal S1x31872 .f32) (bi g : Vec Ideal S1x31872 .bf16) : Vec Ideal S8192x31872 .bf16 :=
  fun i => ((∑ k : Fin 3328, a (ix2 (i 0 : Fin 8192) k) * w (ix2 k (i 1 : Fin 31872))) * hs (ix2 (i 0 : Fin 8192) 0)
    * ws (ix2 0 (i 1 : Fin 31872)) + bi (ix2 0 (i 1 : Fin 31872))) * g (ix2 0 (i 1 : Fin 31872))

/-! ## Where a block's element lies -/

/-- The block indices of the seven windows at a point. -/
theorem index1 : ∀ t : Fin cfg1.N,
    (win1_0.index t (0 : Fin 2) = t.val % 4 ∧ win1_0.index t (1 : Fin 2) = 0)
      ∧ (win1_1.index t (0 : Fin 2) = 0 ∧ win1_1.index t (1 : Fin 2) = t.val / 4)
      ∧ (win1_2.index t (0 : Fin 2) = t.val % 4 ∧ win1_2.index t (1 : Fin 2) = 0)
      ∧ (win1_3.index t (0 : Fin 2) = 0 ∧ win1_3.index t (1 : Fin 2) = t.val / 4)
      ∧ (win1_4.index t (0 : Fin 2) = 0 ∧ win1_4.index t (1 : Fin 2) = t.val / 4)
      ∧ (win1_5.index t (0 : Fin 2) = 0 ∧ win1_5.index t (1 : Fin 2) = t.val / 4)
      ∧ (win1_6.index t (0 : Fin 2) = t.val % 4 ∧ win1_6.index t (1 : Fin 2) = t.val / 4) :=
  (by decide +kernel : ∀ t : Fin grid1.N, _)

/-- Row `p` of point `t`'s block, as a row of the array. -/
def row1 (t : Fin cfg1.N) (p : Fin 2048) : Fin 8192 := ⟨t.val % 4 * 2048 + p.val, by have := p.isLt; omega⟩

/-- Column `q` of point `t`'s block, as a column of the array, if it lies inside it. -/
def col1 (t : Fin cfg1.N) (q : Fin 1280) (h : t.val / 4 * 1280 + q.val < 31872) : Fin 31872 := ⟨t.val / 4 * 1280 + q.val, h⟩

theorem emb1_0 (t : Fin cfg1.N) (p : Fin 2048) (k : Fin 3328) :
    ((cfg1.win 0).blk t).view.emb (ix2 p k) = (ix2 (row1 t p) k : S8192x3328.Idx) := by
  obtain ⟨⟨e0, e1⟩, -⟩ := index1 t
  funext a; apply Fin.ext
  match a with
  | ⟨0, _⟩ => show win1_0.index t (0 : Fin 2) * 2048 + 1 * p.val = t.val % 4 * 2048 + p.val; omega
  | ⟨1, _⟩ => show win1_0.index t (1 : Fin 2) * 3328 + 1 * k.val = k.val; omega

theorem emb1_2 (t : Fin cfg1.N) (p : Fin 2048) :
    ((cfg1.win 2).blk t).view.emb (ix2 p (0 : Fin 1)) = (ix2 (row1 t p) (0 : Fin 1) : S8192x1.Idx) := by
  obtain ⟨-, -, ⟨e0, e1⟩, -⟩ := index1 t
  funext a; apply Fin.ext
  match a with
  | ⟨0, _⟩ => show win1_2.index t (0 : Fin 2) * 2048 + 1 * p.val = t.val % 4 * 2048 + p.val; omega
  | ⟨1, _⟩ => show win1_2.index t (1 : Fin 2) * 1 + 1 * 0 = 0; omega

/-- A coordinate of a block that lies inside the array is among those moved. -/
theorem lt_extent {ix k d q : Nat} (hq : q < k) (h : ix * k + q < d) : q < (Pipeline.Clip.of ix k d).extent k := by
  unfold Pipeline.Clip.of
  split
  · exact hq
  · show q < d - ix * k; omega

variable (V : (c : Dev nD) → (b : Ref sig .tc) → Buf (Elt Ideal) ((c : Thread nD τ).loc b)) (c : Dev nD)

theorem iblk1_0 (t : Fin cfg1.N) (p : Fin 2048) (k : Fin 3328) :
    iblk1 V c 0 t (ix2 p k) = V c main_v1_0 (ix2 (row1 t p) k) := by
  show V c main_v1_0 (((cfg1.win 0).blk t).view.emb (ix2 p k)) = _; rw [emb1_0]

theorem iblk1_2 (t : Fin cfg1.N) (p : Fin 2048) :
    iblk1 V c 2 t (ix2 p (0 : Fin 1)) = V c main_v1_1 (ix2 (row1 t p) (0 : Fin 1)) := by
  show V c main_v1_1 (((cfg1.win 2).blk t).view.emb (ix2 p (0 : Fin 1))) = _; rw [emb1_2]

/-- The weights' buffer at a column inside the array holds the weights, whatever fills it up. -/
theorem fill1_1 (t : Fin cfg1.N) (d) (k : Fin 3328) (q : Fin 1280) (h : t.val / 4 * 1280 + q.val < 31872) :
    fill1 V c 1 t d (ix2 k q) = V c main_arg4 (ix2 k (col1 t q h)) := by
  obtain ⟨-, ⟨e0, e1⟩, -⟩ := index1 t
  have hm : (cfg1.win 1).moved (cfg1.grid.coords t) (ix2 k q) = true :=
    ((cfg1.win 1).moved_iff (cfg1.grid.coords t) (ix2 k q)).mpr fun a => by
      match a with
      | ⟨0, _⟩ => exact lt_extent (ix := win1_1.index t (0 : Fin 2)) (k := 3328) (d := 3328) (q := k.val) k.isLt (by have := k.isLt; omega)
      | ⟨1, _⟩ => exact lt_extent (ix := win1_1.index t (1 : Fin 2)) (k := 1280) (d := 31872) (q := q.val) q.isLt (by omega)
  unfold fill1 Pipeline.Window.fill
  rw [dif_pos hm]
  unfold iblk1
  refine congrArg (V c main_arg4) (funext fun a => Fin.ext ?_)
  match a with
  | ⟨0, _⟩ => show win1_1.index t (0 : Fin 2) * 3328 + 1 * k.val = k.val; omega
  | ⟨1, _⟩ => show win1_1.index t (1 : Fin 2) * 1280 + 1 * q.val = t.val / 4 * 1280 + q.val; omega

/-- The scales' buffer likewise. -/
theorem fill1_3 (t : Fin cfg1.N) (d) (q : Fin 1280) (h : t.val / 4 * 1280 + q.val < 31872) :
    fill1 V c 3 t d (ix2 (0 : Fin 1) q) = V c main_v2 (ix2 (0 : Fin 1) (col1 t q h)) := by
  obtain ⟨-, -, -, ⟨e0, e1⟩, -⟩ := index1 t
  have hm : (cfg1.win 3).moved (cfg1.grid.coords t) (ix2 (0 : Fin 1) q) = true :=
    ((cfg1.win 3).moved_iff (cfg1.grid.coords t) (ix2 (0 : Fin 1) q)).mpr fun a => by
      match a with
      | ⟨0, _⟩ => exact lt_extent (ix := win1_3.index t (0 : Fin 2)) (k := 1) (d := 1) (q := 0) Nat.one_pos (by omega)
      | ⟨1, _⟩ => exact lt_extent (ix := win1_3.index t (1 : Fin 2)) (k := 1280) (d := 31872) (q := q.val) q.isLt (by omega)
  unfold fill1 Pipeline.Window.fill
  rw [dif_pos hm]
  unfold iblk1
  refine congrArg (V c main_v2) (funext fun a => Fin.ext ?_)
  match a with
  | ⟨0, _⟩ => show win1_3.index t (0 : Fin 2) * 1 + 1 * 0 = 0; omega
  | ⟨1, _⟩ => show win1_3.index t (1 : Fin 2) * 1280 + 1 * q.val = t.val / 4 * 1280 + q.val; omega

/-- The bias's buffer likewise. -/
theorem fill1_4 (t : Fin cfg1.N) (d) (q : Fin 1280) (h : t.val / 4 * 1280 + q.val < 31872) :
    fill1 V c 4 t d (ix2 (0 : Fin 1) q) = V c main_v3 (ix2 (0 : Fin 1) (col1 t q h)) := by
  obtain ⟨-, -, -, -, ⟨e0, e1⟩, -⟩ := index1 t
  have hm : (cfg1.win 4).moved (cfg1.grid.coords t) (ix2 (0 : Fin 1) q) = true :=
    ((cfg1.win 4).moved_iff (cfg1.grid.coords t) (ix2 (0 : Fin 1) q)).mpr fun a => by
      match a with
      | ⟨0, _⟩ => exact lt_extent (ix := win1_4.index t (0 : Fin 2)) (k := 1) (d := 1) (q := 0) Nat.one_pos (by omega)
      | ⟨1, _⟩ => exact lt_extent (ix := win1_4.index t (1 : Fin 2)) (k := 1280) (d := 31872) (q := q.val) q.isLt (by omega)
  unfold fill1 Pipeline.Window.fill
  rw [dif_pos hm]
  unfold iblk1
  refine congrArg (V c main_v3) (funext fun a => Fin.ext ?_)
  match a with
  | ⟨0, _⟩ => show win1_4.index t (0 : Fin 2) * 1 + 1 * 0 = 0; omega
  | ⟨1, _⟩ => show win1_4.index t (1 : Fin 2) * 1280 + 1 * q.val = t.val / 4 * 1280 + q.val; omega

/-- The gate's buffer likewise. -/
theorem fill1_5 (t : Fin cfg1.N) (d) (q : Fin 1280) (h : t.val / 4 * 1280 + q.val < 31872) :
    fill1 V c 5 t d (ix2 (0 : Fin 1) q) = V c main_arg3 (ix2 (0 : Fin 1) (col1 t q h)) := by
  obtain ⟨-, -, -, -, -, ⟨e0, e1⟩, -⟩ := index1 t
  have hm : (cfg1.win 5).moved (cfg1.grid.coords t) (ix2 (0 : Fin 1) q) = true :=
    ((cfg1.win 5).moved_iff (cfg1.grid.coords t) (ix2 (0 : Fin 1) q)).mpr fun a => by
      match a with
      | ⟨0, _⟩ => exact lt_extent (ix := win1_5.index t (0 : Fin 2)) (k := 1) (d := 1) (q := 0) Nat.one_pos (by omega)
      | ⟨1, _⟩ => exact lt_extent (ix := win1_5.index t (1 : Fin 2)) (k := 1280) (d := 31872) (q := q.val) q.isLt (by omega)
  unfold fill1 Pipeline.Window.fill
  rw [dif_pos hm]
  unfold iblk1
  refine congrArg (V c main_arg3) (funext fun a => Fin.ext ?_)
  match a with
  | ⟨0, _⟩ => show win1_5.index t (0 : Fin 2) * 1 + 1 * 0 = 0; omega
  | ⟨1, _⟩ => show win1_5.index t (1 : Fin 2) * 1280 + 1 * q.val = t.val / 4 * 1280 + q.val; omega

/-! ## The block and the array -/

/-- What the body leaves at row `p` and a column `q` inside the array. -/
theorem res1_apply (t : Fin cfg1.N) (X : Vec Ideal S2048x1280 .bf16) (hX : Res1 V c t X) (p : Fin 2048) (q : Fin 1280)
    (h : t.val / 4 * 1280 + q.val < 31872) :
    X (ix2 p q) = product (V c main_v1_0) (V c main_arg4) (V c main_v1_1) (V c main_v2) (V c main_v3) (V c main_arg3)
      (ix2 (row1 t p) (col1 t q h)) := by
  obtain ⟨d1, d3, d4, d5, rfl⟩ := hX
  have hz : (![0, 0] : Fin 2 → Nat) = fun _ => 0 := funext fun a => by fin_cases a <;> rfl
  unfold out1_6
  rw [View.canon_unit_zero hz, View.ld_unit_zero (S := S2048x3328) hz, View.ld_unit_zero (S := S3328x1280) hz,
    View.ld_unit_zero (S := S2048x1) hz, View.ld_unit_zero (S := S1x1280) hz, View.ld_unit_zero (S := S1x1280) hz,
    View.ld_unit_zero (S := S1x1280) hz, tile_apply, iblk1_2, fill1_3 V c t d3 q h, fill1_4 V c t d4 q h, fill1_5 V c t d5 q h,
    Finset.sum_congr rfl fun k _ => congrArg₂ (fun (x y : EReal) => x * y) (iblk1_0 V c t p k) (fill1_1 V c t d1 k q h)]
  rfl

/-- Every row and column of the result is one of some point's block. -/
theorem tile_surj (r : Fin 8192) (s : Fin 31872) :
    ∃ (t : Fin cfg1.N) (p : Fin 2048) (q : Fin 1280) (h : t.val / 4 * 1280 + q.val < 31872), row1 t p = r ∧ col1 t q h = s := by
  have hr := r.isLt
  have hs := s.isLt
  refine ⟨⟨s.val / 1280 * 4 + r.val / 2048, by rw [show cfg1.N = 100 from N_1]; omega⟩, ⟨r.val % 2048, by omega⟩,
    ⟨s.val % 1280, by omega⟩, ?_, ?_, ?_⟩
  · show (s.val / 1280 * 4 + r.val / 2048) / 4 * 1280 + s.val % 1280 < 31872; omega
  · apply Fin.ext; show (s.val / 1280 * 4 + r.val / 2048) % 4 * 2048 + r.val % 2048 = r.val; omega
  · apply Fin.ext; show (s.val / 1280 * 4 + r.val / 2048) / 4 * 1280 + s.val % 1280 = s.val; omega

/-- An index of the part of point `t`'s block inside the array: its place in the block and in the array. -/
theorem emb1_6 (t : Fin cfg1.N) (j : ((cfg1.win 6).xblock (cfg1.grid.coords t)).Idx) :
    ∃ (p : Fin 2048) (q : Fin 1280) (h : t.val / 4 * 1280 + q.val < 31872),
      (cfg1.win 6).xinj (cfg1.grid.coords t) j = (ix2 p q : S2048x1280.Idx)
        ∧ ((cfg1.win 6).blk t).view.emb j = (ix2 (row1 t p) (col1 t q h) : S8192x31872.Idx) := by
  obtain ⟨-, -, -, -, -, -, ⟨e0, e1⟩⟩ := index1 t
  have hp : (j 0).val < 2048 := Nat.lt_of_lt_of_le (j 0).isLt ((cfg1.win 6).xsize_le (cfg1.grid.coords t) 0)
  have hq : (j 1).val < 1280 := Nat.lt_of_lt_of_le (j 1).isLt ((cfg1.win 6).xsize_le (cfg1.grid.coords t) 1)
  have hlt : win1_6.index t (1 : Fin 2) * 1280 + 1 * (j 1).val < 31872 := (((cfg1.win 6).blk t).view.emb j (1 : Fin 2)).isLt
  refine ⟨⟨(j 0).val, hp⟩, ⟨(j 1).val, hq⟩, by show t.val / 4 * 1280 + (j 1).val < 31872; omega, ?_, ?_⟩
  · funext a
    match a with
    | ⟨0, _⟩ => rfl
    | ⟨1, _⟩ => rfl
  · funext a; apply Fin.ext
    match a with
    | ⟨0, _⟩ => show win1_6.index t (0 : Fin 2) * 2048 + 1 * (j 0).val = t.val % 4 * 2048 + (j 0).val; omega
    | ⟨1, _⟩ => show win1_6.index t (1 : Fin 2) * 1280 + 1 * (j 1).val = t.val / 4 * 1280 + (j 1).val; omega

theorem covered1_6 (i : S8192x31872.Idx) : ∃ t : Fin cfg1.N, (cfg1.win 6).flush t = true ∧ i ∈ ((cfg1.win 6).blk t).view.set := by
  obtain ⟨r, s, rfl⟩ : ∃ (r : Fin 8192) (s : Fin 31872), i = ix2 r s := ⟨i 0, i 1, eq_ix2 i⟩
  obtain ⟨t, p, q, h, rfl, rfl⟩ := tile_surj r s
  obtain ⟨-, -, -, -, -, -, ⟨e0, e1⟩⟩ := index1 t
  refine ⟨t, flush1_6 t, ?_⟩
  let j : ((cfg1.win 6).xblock (cfg1.grid.coords t)).Idx := fun a => match a with
    | ⟨0, _⟩ => ⟨p.val, lt_extent (ix := win1_6.index t (0 : Fin 2)) (k := 2048) (d := 8192) (q := p.val) p.isLt (by have := p.isLt; omega)⟩
    | ⟨1, _⟩ => ⟨q.val, lt_extent (ix := win1_6.index t (1 : Fin 2)) (k := 1280) (d := 31872) (q := q.val) q.isLt (by omega)⟩
  have hj : ((cfg1.win 6).blk t).view.emb j = (ix2 (row1 t p) (col1 t q h) : S8192x31872.Idx) := by
    funext a; apply Fin.ext
    match a with
    | ⟨0, _⟩ => show win1_6.index t (0 : Fin 2) * 2048 + 1 * p.val = t.val % 4 * 2048 + p.val; omega
    | ⟨1, _⟩ => show win1_6.index t (1 : Fin 2) * 1280 + 1 * q.val = t.val / 4 * 1280 + q.val; omega
  have hs := ((cfg1.win 6).blk t).view.emb_mem_set j
  rwa [hj] at hs

/-- THE RESULT ARRAY after the region: whatever it may hold by the region's relation is `product` of the arrays entered with. -/
theorem final1_6 (G : Buf (Elt Ideal) ((cfg1.win 6).arr.view.loc (c.tc : Thread nD τ)))
    (hG : ((dat1 V c).toRRel fgt1 (Rl1 V c)).ArrAt 6 cfg1.N G) :
    G = product (V c main_v1_0) (V c main_arg4) (V c main_v1_1) (V c main_v2) (V c main_v3) (V c main_arg3) := by
  obtain ⟨X, hX, hA⟩ := hG.exists_exact
  rw [hA (Function.update (fun _ _ _ => Classical.arbitrary _) 6 X) fun u _ _ => by rw [Function.update_self]]
  refine Dat.arrAt_eq_of_cover _ 6 _ (fun t hf => ?_) covered1_6
  have hres : Res1 V c t (X t) := (dat1 V c).toRRel_leaves (fgt := fgt1) (Rl := Rl1 V c) (w := 6) rfl (hX t t.isLt hf)
  show (cfg1.win 6).cut (cfg1.grid.coords t) (Function.update (fun _ _ _ => Classical.arbitrary _) 6 X 6 t) = _
  rw [Function.update_self]
  funext j
  obtain ⟨p, q, h, e1, e2⟩ := emb1_6 t j
  show X t ((cfg1.win 6).xinj (cfg1.grid.coords t) j)
    = product (V c main_v1_0) (V c main_arg4) (V c main_v1_1) (V c main_v2) (V c main_v3) (V c main_arg3) (((cfg1.win 6).blk t).view.emb j)
  rw [e1, e2]
  exact res1_apply V c t (X t) hres p q h

end Cert.KernelIdeal.Read

end
-- ==== Proof.KernelValue.lean ====
/-
  What the kernel leaves in its three results, from the arguments alone: the reshapes around the two regions read, and each
  result written as a function of the argument arrays.
-/
module

public import proofs.«01_k».proof.Proof.KernelIdealRun
public import proofs.«01_k».proof.Proof.KernelQuantArray
public import proofs.«01_k».proof.Proof.KernelProductArray
public import Idealize.ShloMosaic.Lib.StableHlo.RunRead

@[expose] public section

set_option maxRecDepth 16384

noncomputable section

namespace Cert.KernelIdeal.Value

open Cert.KernelIdeal Cert.KernelIdeal.Gen Cert.KernelIdeal.Run Cert.KernelIdeal.Read Idealize.ShloMosaic Idealize.ShloMosaic.TcCoe

/-! ## The results as functions of the arguments -/

/-- The codes, rows by columns. -/
abbrev codesOf (a0 : Vec Ideal S1x8192x3328 .bf16) (a1 a2 : Vec Ideal S1x3328 .bf16) : Vec Ideal S8192x3328 .fp8e4m3 :=
  codes (shapeCast S8192x3328 a0 shapeCasts_S1x8192x3328_S8192x3328) a2 a1

/-- The rows' units. -/
abbrev unitsOf (a0 : Vec Ideal S1x8192x3328 .bf16) (a1 a2 : Vec Ideal S1x3328 .bf16) : Vec Ideal S8192x1 .f32 :=
  units (shapeCast S8192x3328 a0 shapeCasts_S1x8192x3328_S8192x3328) a2 a1

/-- The first result: the gated product. -/
def H0 (a0 : Vec Ideal S1x8192x3328 .bf16) (a1 a2 : Vec Ideal S1x3328 .bf16) (a3 : Vec Ideal S1x31872 .bf16)
    (a4 : Vec Ideal S3328x31872 .fp8e4m3) (a5 : Vec Ideal S31872 .f32) (a6 : Vec Ideal S31872 .bf16) :
    Vec Ideal S1x8192x31872 .bf16 :=
  shapeCast S1x8192x31872 (product (codesOf a0 a1 a2) a4 (unitsOf a0 a1 a2) (shapeCast S1x31872 a5 shapeCasts_S31872_S1x31872)
    (shapeCast S1x31872 a6 shapeCasts_S31872_S1x31872) a3) shapeCasts_S8192x31872_S1x8192x31872

/-- The second result: the codes. -/
def H1 (a0 : Vec Ideal S1x8192x3328 .bf16) (a1 a2 : Vec Ideal S1x3328 .bf16) : Vec Ideal S1x8192x3328 .fp8e4m3 :=
  shapeCast S1x8192x3328 (codesOf a0 a1 a2) shapeCasts_S8192x3328_S1x8192x3328

/-- The third result: the units. -/
def H2 (a0 : Vec Ideal S1x8192x3328 .bf16) (a1 a2 : Vec Ideal S1x3328 .bf16) : Vec Ideal S1x8192x1 .f32 :=
  shapeCast S1x8192x1 (unitsOf a0 a1 a2) shapeCasts_S8192x1_S1x8192x1

variable (m : (ℓ : Loc nD τ sig) → Buf (Elt Ideal) ℓ) (ρ : Dev nD → PrngReg) (c : Dev nD)

/-! ## The buffers along the run -/

theorem V1_v0 : V1 m ρ c main_v0
    = shapeCast S8192x3328 (m ((c : Thread nD τ).loc main_arg0)) shapeCasts_S1x8192x3328_S8192x3328 := by
  show W1 m ρ c (Proc.devRef .tc main_v0) = _
  unfold W1; after_results; rfl

theorem V1_arg1 : V1 m ρ c main_arg1 = m ((c : Thread nD τ).loc main_arg1) := W1_args m ρ c main_arg1 (by decide)
theorem V1_arg2 : V1 m ρ c main_arg2 = m ((c : Thread nD τ).loc main_arg2) := W1_args m ρ c main_arg2 (by decide)

/-- Region 0's codes array. -/
theorem W2_codes : W2 m ρ c (Proc.devRef .tc main_v1_0) = codesOf (m ((c : Thread nD τ).loc main_arg0))
    (m ((c : Thread nD τ).loc main_arg1)) (m ((c : Thread nD τ).loc main_arg2)) :=
  (W2_arr m ρ c 3).trans ((final0_3 (V1 m ρ) c).trans (by rw [V1_v0, V1_arg1, V1_arg2]))

/-- Region 0's units array. -/
theorem W2_units : W2 m ρ c (Proc.devRef .tc main_v1_1) = unitsOf (m ((c : Thread nD τ).loc main_arg0))
    (m ((c : Thread nD τ).loc main_arg1)) (m ((c : Thread nD τ).loc main_arg2)) :=
  (W2_arr m ρ c 4).trans ((final0_4 (V1 m ρ) c).trans (by rw [V1_v0, V1_arg1, V1_arg2]))

theorem V3_codes : V3 m ρ c main_v1_0 = codesOf (m ((c : Thread nD τ).loc main_arg0))
    (m ((c : Thread nD τ).loc main_arg1)) (m ((c : Thread nD τ).loc main_arg2)) :=
  (W3_of m ρ c main_v1_0 (by decide)).trans (W2_codes m ρ c)

theorem V3_units : V3 m ρ c main_v1_1 = unitsOf (m ((c : Thread nD τ).loc main_arg0))
    (m ((c : Thread nD τ).loc main_arg1)) (m ((c : Thread nD τ).loc main_arg2)) :=
  (W3_of m ρ c main_v1_1 (by decide)).trans (W2_units m ρ c)

theorem V3_arg3 : V3 m ρ c main_arg3 = m ((c : Thread nD τ).loc main_arg3) := W3_args m ρ c main_arg3 (by decide)
theorem V3_arg4 : V3 m ρ c main_arg4 = m ((c : Thread nD τ).loc main_arg4) := W3_args m ρ c main_arg4 (by decide)

theorem V3_v2 : V3 m ρ c main_v2
    = shapeCast S1x31872 (m ((c : Thread nD τ).loc main_arg5)) shapeCasts_S31872_S1x31872 := by
  have h := W2_args m ρ c main_arg5 (by decide)
  show W3 m ρ c (Proc.devRef .tc main_v2) = _
  rw [← h]
  unfold W3; after_results; rfl

theorem V3_v3 : V3 m ρ c main_v3
    = shapeCast S1x31872 (m ((c : Thread nD τ).loc main_arg6)) shapeCasts_S31872_S1x31872 := by
  have h := W2_args m ρ c main_arg6 (by decide)
  show W3 m ρ c (Proc.devRef .tc main_v3) = _
  rw [← h]
  unfold W3; after_results; rfl

/-- Region 1's result array, whatever the region's relation leaves. -/
theorem W4_product (γ : Γ m ρ c) : W4 m ρ c γ (Proc.devRef .tc main_v4)
    = product (codesOf (m ((c : Thread nD τ).loc main_arg0)) (m ((c : Thread nD τ).loc main_arg1)) (m ((c : Thread nD τ).loc main_arg2)))
        (m ((c : Thread nD τ).loc main_arg4))
        (unitsOf (m ((c : Thread nD τ).loc main_arg0)) (m ((c : Thread nD τ).loc main_arg1)) (m ((c : Thread nD τ).loc main_arg2)))
        (shapeCast S1x31872 (m ((c : Thread nD τ).loc main_arg5)) shapeCasts_S31872_S1x31872)
        (shapeCast S1x31872 (m ((c : Thread nD τ).loc main_arg6)) shapeCasts_S31872_S1x31872)
        (m ((c : Thread nD τ).loc main_arg3)) :=
  (W4_arr m ρ c γ 6).trans ((final1_6 (V3 m ρ) c _ (γ.2 6)).trans
    (by rw [V3_codes, V3_units, V3_arg3, V3_arg4, V3_v2, V3_v3]))

theorem W4_codes (γ : Γ m ρ c) : W4 m ρ c γ (Proc.devRef .tc main_v1_0) = codesOf (m ((c : Thread nD τ).loc main_arg0))
    (m ((c : Thread nD τ).loc main_arg1)) (m ((c : Thread nD τ).loc main_arg2)) :=
  (W4_of m ρ c γ main_v1_0 (by decide)).trans (V3_codes m ρ c)

theorem W4_units (γ : Γ m ρ c) : W4 m ρ c γ (Proc.devRef .tc main_v1_1) = unitsOf (m ((c : Thread nD τ).loc main_arg0))
    (m ((c : Thread nD τ).loc main_arg1)) (m ((c : Thread nD τ).loc main_arg2)) :=
  (W4_of m ρ c γ main_v1_1 (by decide)).trans (V3_units m ρ c)

theorem W5_v5 (γ : Γ m ρ c) : W5 m ρ c γ (Proc.devRef .tc main_v5)
    = H0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  unfold H0
  rw [← W4_product m ρ c γ]
  unfold W5; after_results; rfl

theorem W5_v6 (γ : Γ m ρ c) : W5 m ρ c γ (Proc.devRef .tc main_v6)
    = H1 (m ((c : Thread nD τ).loc main_arg0)) (m ((c : Thread nD τ).loc main_arg1)) (m ((c : Thread nD τ).loc main_arg2)) := by
  unfold H1
  rw [← W4_codes m ρ c γ]
  unfold W5; after_results; rfl

theorem W5_v7 (γ : Γ m ρ c) : W5 m ρ c γ (Proc.devRef .tc main_v7)
    = H2 (m ((c : Thread nD τ).loc main_arg0)) (m ((c : Thread nD τ).loc main_arg1)) (m ((c : Thread nD τ).loc main_arg2)) := by
  unfold H2
  rw [← W4_units m ρ c γ]
  unfold W5; after_results; rfl

/-- THE RUN, READ: each result at its function of the arguments, the arguments unchanged. -/
theorem run : θ_run defs (onTc (τ := τ) (main (F := Ideal))) ⟨m, fun _ => 0, ρ⟩ fun r => ∀ c : Dev nD,
      r.2.mem ((c : Thread nD τ).loc main_v5)
        = H0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c : Thread nD τ).loc main_v6)
        = H1 (m ((c : Thread nD τ).loc main_arg0)) (m ((c : Thread nD τ).loc main_arg1)) (m ((c : Thread nD τ).loc main_arg2))
      ∧ r.2.mem ((c : Thread nD τ).loc main_v7)
        = H2 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨γ, hb⟩ := h.1 c
    have key : ∀ a ∈ argRefs, ¬ (Proc.devRef .tc a : DevRef τ sig).isScoped → r.2.mem ((c.tc : Thread nD τ).loc a) = m ((c.tc : Thread nD τ).loc a) :=
      fun a ha hs => (hb _ (mem_uc a hs)).trans (W5_args m ρ c γ a ha)
    exact ⟨(hb _ (mem_uc main_v5 (by decide))).trans (W5_v5 m ρ c γ), (hb _ (mem_uc main_v6 (by decide))).trans (W5_v6 m ρ c γ),
      (hb _ (mem_uc main_v7 (by decide))).trans (W5_v7 m ρ c γ),
      key main_arg0 (by decide) (by decide), key main_arg1 (by decide) (by decide), key main_arg2 (by decide) (by decide),
      key main_arg3 (by decide) (by decide), key main_arg4 (by decide) (by decide), key main_arg5 (by decide) (by decide),
      key main_arg6 (by decide) (by decide)⟩) (run_out m ρ)

end Cert.KernelIdeal.Value

end
-- ==== Proof.RefRun.lean ====
/-
  The reference program runs its one body once, with every window the whole of its array. So each of its three results is
  the body's payload applied to the argument arrays: `run` states this with the arguments unchanged.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the frame run says of the arrays -/

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S1x8192x3328.Idx) : ((cfg0.win 0).blk t).view.emb j = j := by
  obtain ⟨e0, e1, e2⟩ := idx_zero0 t
  funext a; apply Fin.ext
  match a with
  | ⟨0, _⟩ => show win0_0.index t (0 : Fin 3) * 1 + 1 * (j 0).val = (j 0).val; omega
  | ⟨1, _⟩ => show win0_0.index t (1 : Fin 3) * 8192 + 1 * (j 1).val = (j 1).val; omega
  | ⟨2, _⟩ => show win0_0.index t (2 : Fin 3) * 3328 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1x3328.Idx) : ((cfg0.win 1).blk t).view.emb j = j := by
  obtain ⟨e0, e1⟩ := idx_zero1 t
  funext a; apply Fin.ext
  match a with
  | ⟨0, _⟩ => show win0_1.index t (0 : Fin 2) * 1 + 1 * (j 0).val = (j 0).val; omega
  | ⟨1, _⟩ => show win0_1.index t (1 : Fin 2) * 3328 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1x3328.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 3328 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x31872.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 31872 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3328x31872.Idx) : ((cfg0.win 4).blk t).view.emb j = j := by
  obtain ⟨e0, e1⟩ := idx_zero4 t
  funext a; apply Fin.ext
  match a with
  | ⟨0, _⟩ => show win0_4.index t (0 : Fin 2) * 3328 + 1 * (j 0).val = (j 0).val; omega
  | ⟨1, _⟩ => show win0_4.index t (1 : Fin 2) * 31872 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S31872.Idx) : ((cfg0.win 5).blk t).view.emb j = j := by
  have e0 := idx_zero5 t
  funext a; apply Fin.ext
  match a with
  | ⟨0, _⟩ => show win0_5.index t (0 : Fin 1) * 31872 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S31872.Idx) : ((cfg0.win 6).blk t).view.emb j = j := by
  have e0 := idx_zero6 t
  funext a; apply Fin.ext
  match a with
  | ⟨0, _⟩ => show win0_6.index t (0 : Fin 1) * 31872 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S1x8192x31872.Idx) : ((cfg0.win 7).blk t).view.emb j = j := by
  obtain ⟨e0, e1, e2⟩ := idx_zero7 t
  funext a; apply Fin.ext
  match a with
  | ⟨0, _⟩ => show win0_7.index t (0 : Fin 3) * 1 + 1 * (j 0).val = (j 0).val; omega
  | ⟨1, _⟩ => show win0_7.index t (1 : Fin 3) * 8192 + 1 * (j 1).val = (j 1).val; omega
  | ⟨2, _⟩ => show win0_7.index t (2 : Fin 3) * 31872 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S1x8192x3328.Idx) : ((cfg0.win 8).blk t).view.emb j = j := by
  obtain ⟨e0, e1, e2⟩ := idx_zero8 t
  funext a; apply Fin.ext
  match a with
  | ⟨0, _⟩ => show win0_8.index t (0 : Fin 3) * 1 + 1 * (j 0).val = (j 0).val; omega
  | ⟨1, _⟩ => show win0_8.index t (1 : Fin 3) * 8192 + 1 * (j 1).val = (j 1).val; omega
  | ⟨2, _⟩ => show win0_8.index t (2 : Fin 3) * 3328 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S1x8192x1.Idx) : ((cfg0.win 9).blk t).view.emb j = j := by
  obtain ⟨e0, e1, e2⟩ := idx_zero9 t
  funext a; apply Fin.ext
  match a with
  | ⟨0, _⟩ => show win0_9.index t (0 : Fin 3) * 1 + 1 * (j 0).val = (j 0).val; omega
  | ⟨1, _⟩ => show win0_9.index t (1 : Fin 3) * 8192 + 1 * (j 1).val = (j 1).val; omega
  | ⟨2, _⟩ => show win0_9.index t (2 : Fin 3) * 1 + 1 * (j 2).val = (j 2).val; omega

/-! ### Output window 7: the array after the run -/

/-- What the window's array ends holding: `out0_7` applied to the argument arrays in place of the input blocks (a value that the
    frame states apart, `kK_payN a…`, keeps its loads inside its own definition). -/
abbrev G7 (a0 : Vec F S1x8192x3328 .bf16) (a1 : Vec F S1x3328 .bf16) (a2 : Vec F S1x3328 .bf16) (a3 : Vec F S1x31872 .bf16) (a4 : Vec F S3328x31872 .fp8e4m3) (a5 : Vec F S31872 .f32) (a6 : Vec F S31872 .bf16) : Vec F S1x8192x31872 .bf16 :=
  k0_pay8 a3 a4 a5 a6 (k0_pay10 a0 a1 a2 a3 a4 a5 a6) (k0_pay11 a0 a1 a2 a3 a4 a5 a6) (k0_pay12 a0 a1 a2 a3 a4 a5 a6)

/-- A load of the whole of a block reads the block, and the one store through the whole rectangle leaves its payload. -/
theorem out7_eq (a0 : Vec F S1x8192x3328 .bf16) (a1 : Vec F S1x3328 .bf16) (a2 : Vec F S1x3328 .bf16) (a3 : Vec F S1x31872 .bf16) (a4 : Vec F S3328x31872 .fp8e4m3) (a5 : Vec F S31872 .f32) (a6 : Vec F S31872 .bf16) : out0_7 (F := F) a0 a1 a2 a3 a4 a5 a6 = G7 a0 a1 a2 a3 a4 a5 a6 := by
  unfold out0_7
  rw [View.canon_unit_zero hz7, View.ld_unit_zero (S := S1x31872) hz3 _ a3, View.ld_unit_zero (S := S3328x31872) hz4 _ a4, View.ld_unit_zero (S := S31872) hz5 _ a5, View.ld_unit_zero (S := S31872) hz6 _ a6]

/-- Cutting the point's block out of `X` and reading `X` through the block's view give the same. -/
theorem cut7_eq (t : Fin cfg0.N) (X : Vec F S1x8192x31872 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S1x8192x31872.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S1x8192x3328 .bf16) (a1 : Vec F S1x3328 .bf16) (a2 : Vec F S1x3328 .bf16) (a3 : Vec F S1x31872 .bf16) (a4 : Vec F S3328x31872 .fp8e4m3) (a5 : Vec F S31872 .f32) (a6 : Vec F S31872 .bf16) : Vec F S1x8192x3328 .fp8e4m3 :=
  k0_pay9 (k0_pay10 a0 a1 a2 a3 a4 a5 a6) (k0_pay11 a0 a1 a2 a3 a4 a5 a6) (k0_pay12 a0 a1 a2 a3 a4 a5 a6)

/-- The one store through the whole rectangle leaves its payload. -/
theorem out8_eq (a0 : Vec F S1x8192x3328 .bf16) (a1 : Vec F S1x3328 .bf16) (a2 : Vec F S1x3328 .bf16) (a3 : Vec F S1x31872 .bf16) (a4 : Vec F S3328x31872 .fp8e4m3) (a5 : Vec F S31872 .f32) (a6 : Vec F S31872 .bf16) : out0_8 (F := F) a0 a1 a2 a3 a4 a5 a6 = G8 a0 a1 a2 a3 a4 a5 a6 := by
  unfold out0_8
  rw [View.canon_unit_zero hz8]

/-- Cutting the point's block out of `X` and reading `X` through the block's view give the same. -/
theorem cut8_eq (t : Fin cfg0.N) (X : Vec F S1x8192x3328 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S1x8192x3328.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S1x8192x3328 .bf16) (a1 : Vec F S1x3328 .bf16) (a2 : Vec F S1x3328 .bf16) (a3 : Vec F S1x31872 .bf16) (a4 : Vec F S3328x31872 .fp8e4m3) (a5 : Vec F S31872 .f32) (a6 : Vec F S31872 .bf16) : Vec F S1x8192x1 .f32 :=
  k0_pay1 (k0_pay6 (k0_pay11 a0 a1 a2 a3 a4 a5 a6) (k0_pay12 a0 a1 a2 a3 a4 a5 a6))

/-- The one store through the whole rectangle leaves its payload. -/
theorem out9_eq (a0 : Vec F S1x8192x3328 .bf16) (a1 : Vec F S1x3328 .bf16) (a2 : Vec F S1x3328 .bf16) (a3 : Vec F S1x31872 .bf16) (a4 : Vec F S3328x31872 .fp8e4m3) (a5 : Vec F S31872 .f32) (a6 : Vec F S31872 .bf16) : out0_9 (F := F) a0 a1 a2 a3 a4 a5 a6 = G9 a0 a1 a2 a3 a4 a5 a6 := by
  unfold out0_9
  rw [View.canon_unit_zero hz9]

/-- Cutting the point's block out of `X` and reading `X` through the block's view give the same. -/
theorem cut9_eq (t : Fin cfg0.N) (X : Vec F S1x8192x1 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S1x8192x1.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Value

end
-- ==== Proof.RefRows.lean ====
/-
  What the reference's body computes, read at an index: the modulated row and its greatest magnitude over 448 are the row
  functions of `Proof/Rows.lean`, and its results are read through them.
-/
module

public import proofs.«01_k».proof.Proof.Gen.ReferenceIdeal.Skeleton
public import proofs.«01_k».proof.Proof.Rows
public import Idealize.ShloMosaic.Lib.Pointwise

@[expose] public section

set_option maxRecDepth 65536

noncomputable section

namespace Cert.ReferenceIdeal.Read

open Cert.ReferenceIdeal Cert.ReferenceIdeal.Gen Idealize.ShloMosaic

section
variable (x : Vec Ideal S1x8192x3328 .bf16) (sh sc : Vec Ideal S1x3328 .bf16)

/-- The modulated array at row `p`, column `q` is the modulated row of row `p`. -/
theorem hid_apply (p : Fin 8192) (q : Fin 3328) :
    k0_pay2 (F := Ideal) x sh sc (ix2 p q)
      = Rows.hid (fun k => x (ix3 0 p k)) (fun k => sc (ix2 0 k)) (fun k => sh (ix2 0 k)) q := by
  pointwise [k0_pay2]
  rfl

/-- The column of greatest magnitudes times the unit constant, at row `p`. -/
theorem amax_apply (p : Fin 8192) :
    k0_pay3 (F := Ideal) x sh sc (ix2 p 0) * k0_pay4 (F := Ideal) (ix2 p 0)
      = Rows.amax (fun k => x (ix3 0 p k)) (fun k => sc (ix2 0 k)) (fun k => sh (ix2 0 k)) := by
  pointwise [k0_pay3, k0_pay4]
  simp only [hid_apply, Ideal.absf_def, Rows.amax]
end

section
variable (u s : FVec Ideal S8192x1 .f32)

/-- The exponent the reference writes for a row's greatest magnitude over 448. -/
theorem exponent_apply (p : Fin 8192) :
    k0_pay5 (F := Ideal) u s (ix2 p 0) = Rows.refExponent (u (ix2 p 0) * s (ix2 p 0)) := by
  pointwise [k0_pay5]
  rfl

/-- The unit the reference writes for a row: two to the exponent. -/
theorem unit_apply (p : Fin 8192) :
    k0_pay6 (F := Ideal) u s (ix2 p 0) = Ideal.exp2 (k0_pay5 (F := Ideal) u s (ix2 p 0)) := by
  pointwise [k0_pay6]
  rfl

/-- The code at row `p`, column `q`. -/
theorem code_apply (h : FVec Ideal S8192x3328 .f32) (p : Fin 8192) (q : Fin 3328) :
    k0_pay7 (F := Ideal) h u s (ix2 p q)
      = min (Ideal.ofBits .f32 0x43E00000#32) (max (Ideal.ofBits .f32 0xC3E00000#32)
          (h (ix2 p q) * Ideal.exp2 (0 - Rows.refExponent (u (ix2 p 0) * s (ix2 p 0))))) := by
  pointwise [k0_pay7]
  simp only [exponent_apply]
  rfl
end

/-- The first result at row `p`, column `q`. -/
theorem out_apply (g : Vec Ideal S1x31872 .bf16) (w : Vec Ideal S3328x31872 .fp8e4m3) (ws : Vec Ideal S31872 .f32)
    (b : Vec Ideal S31872 .bf16) (h : FVec Ideal S8192x3328 .f32) (u s : FVec Ideal S8192x1 .f32) (p : Fin 8192) (q : Fin 31872) :
    k0_pay8 (F := Ideal) g w ws b h u s (ix3 0 p q)
      = ((∑ k, k0_pay7 (F := Ideal) h u s (ix2 p k) * w (ix2 k q)) * Ideal.exp2 (k0_pay5 (F := Ideal) u s (ix2 p 0)) * ws (ix1 q)
          + b (ix1 q)) * g (ix2 0 q) := by
  pointwise [k0_pay8, k0_pay6]
  rfl

end Cert.ReferenceIdeal.Read

end
-- ==== Proof.Bound.lean ====
/-
  How large a modulated row may be. Whatever extended reals the activations are, a normalised entry is a real of magnitude
  at most 58: a row of reals has every centred entry within `√3328` deviations, and a row with an infinity has an infinite
  variance, whose reciprocal root is zero. So with `scale` and `shift` within the range of the narrow format, the greatest
  magnitude over 448 is a real in `[0, 2 ^ 126)`.
-/
module

public import proofs.«01_k».proof.Proof.Exponent

@[expose] public section

noncomputable section

namespace Cert.Rows

open Idealize.ShloMosaic

/-- The value of a positive normal float, from its fields. -/
theorem ofBits_normal (b : BitVec 32) (E T : Nat) (hs : b.extractLsb' 31 1 = 0#1) (hE : b.extractLsb' 23 8 = BitVec.ofNat 8 E)
    (hT : b.extractLsb' 0 23 = BitVec.ofNat 23 T) (h0 : 0 < E) (h1 : E < 255) (h2 : T < 2 ^ 23) :
    Ideal.ofBits .f32 b = ((((2 ^ 23 + T : ℕ) : ℝ) * (2 : ℝ) ^ ((E : ℤ) - 150) : ℝ) : EReal) := by
  have hx : (BitVec.ofNat 8 E).toNat = E := by rw [BitVec.toNat_ofNat]; omega
  have hy : (BitVec.ofNat 23 T).toNat = T := by rw [BitVec.toNat_ofNat]; exact Nat.mod_eq_of_lt h2
  show Ideal.ieee 8 23 b = _
  simp only [Ideal.ieee]
  rw [show (BitVec.extractLsb' (8 + 23) 1 b) = 0#1 from hs, hE, hT, hx, hy, if_neg (by omega), if_neg (by omega)]
  congr 1
  have : (E : ℤ) - (2 ^ (8 - 1) - 1) - (23 : ℕ) = (E : ℤ) - 150 := by norm_num; ring
  simp only [show ((0#1 : BitVec 1) == 1#1) = false from rfl, Bool.false_eq_true, if_false]
  rw [this, one_mul]

theorem cWidth_eq : cWidth = ((3328 : ℝ) : EReal) := by
  rw [cWidth, ofBits_normal _ 138 5242880 (by decide) (by decide) (by decide) (by omega) (by omega) (by omega)]
  congr 1; norm_num

theorem cEps_pos : ∃ e : ℝ, 0 < e ∧ cEps = (e : EReal) :=
  ⟨_, by positivity, ofBits_normal _ 107 407485 (by decide) (by decide) (by decide) (by omega) (by omega) (by omega)⟩

theorem cUnit_le : ∃ u : ℝ, 0 < u ∧ u ≤ 1 / 440 ∧ cUnit = (u : EReal) :=
  ⟨_, by positivity, by norm_num,
    ofBits_normal _ 118 1198373 (by decide) (by decide) (by decide) (by omega) (by omega) (by omega)⟩

/-- The greatest finite number of the narrow format is below `2 ^ 128`. -/
theorem ofBits_greatest : ∃ M : ℝ, M ≤ 2 ^ 128 ∧ Ideal.ofBits .f32 0x7F7F0000#32 = (M : EReal) :=
  ⟨_, by norm_num, ofBits_normal _ 254 8323072 (by decide) (by decide) (by decide) (by omega) (by omega) (by omega)⟩

theorem cBot_eq : cBot = ⊥ := by
  show Ideal.ieee 8 23 0xFF800000#32 = ⊥
  simp only [Ideal.ieee]
  rw [if_pos (by decide), if_pos (by decide), if_pos (by decide)]

/-- A quotient by the width. -/
theorem div_width (x : EReal) : Ideal.div x cWidth = x * ((1 / 3328 : ℝ) : EReal) := by
  rw [cWidth_eq, Ideal.div_coe (by norm_num)]

/-- The sum of reals, as extended reals. -/
theorem coe_sum {n : Nat} (f : Fin n → ℝ) : ((∑ i, f i : ℝ) : EReal) = ∑ i, (f i : EReal) :=
  map_sum (⟨⟨Real.toEReal, EReal.coe_zero⟩, EReal.coe_add⟩ : ℝ →+ EReal) f Finset.univ

/-- A sum with a term `⊥` is `⊥`. -/
theorem sum_eq_bot {n : Nat} {f : Fin n → EReal} {k : Fin n} (h : f k = ⊥) : ∑ i, f i = ⊥ := by
  rw [← Finset.add_sum_erase _ _ (Finset.mem_univ k), h, EReal.bot_add]

/-- A sum with a term `⊤` and none `⊥` is `⊤`. -/
theorem sum_eq_top {n : Nat} {f : Fin n → EReal} {k : Fin n} (h : f k = ⊤) (hb : ∀ i, f i ≠ ⊥) : ∑ i, f i = ⊤ := by
  rw [← Finset.add_sum_erase _ _ (Finset.mem_univ k), h]
  refine EReal.top_add_of_ne_bot ?_
  exact Finset.sum_induction f (· ≠ ⊥) (fun a b ha hb' h' => (EReal.add_eq_bot_iff.mp h').elim ha hb') (EReal.coe_ne_bot 0) (fun i _ => hb i)

/-- If every centred entry is infinite the reciprocal root is zero. -/
theorem rstd_of_infinite {n : Nat} (r : Fin n → EReal) (k : Fin n) (h : ∀ i, cen r i = ⊤ ∨ cen r i = ⊥) : rstd r = 0 := by
  obtain ⟨e, he, hE⟩ := cEps_pos
  have hsq : ∀ i, cen r i * cen r i = ⊤ := fun i => by
    rcases h i with h | h <;> rw [h] <;> simp
  have hsum : ∑ i, cen r i * cen r i = ⊤ := sum_eq_top (hsq k) fun i => by rw [hsq i]; exact top_ne_bot
  rw [rstd, hsum, div_width, EReal.top_mul_coe_of_pos (by norm_num), hE, EReal.top_add_coe]
  rfl

/-- A NORMALISED ENTRY is a real of magnitude at most 58. -/
theorem normed_le (r : Fin 3328 → EReal) (k : Fin 3328) :
    ∃ z : ℝ, |z| ≤ 58 ∧ cen r k * rstd r = (z : EReal) := by
  by_cases hreal : ∀ i, r i ≠ ⊤ ∧ r i ≠ ⊥
  · -- a row of reals
    obtain ⟨e, he, hE⟩ := cEps_pos
    lift r to Fin 3328 → ℝ using hreal
    have hc : ∀ i, cen (fun j => (r j : EReal)) i = ((r i - (∑ j, r j) * (1 / 3328) : ℝ) : EReal) := fun i => by
      rw [cen, div_width, ← coe_sum, ← EReal.coe_mul, ← EReal.coe_sub]
    generalize hcdef : (fun i => r i - (∑ j, r j) * (1 / 3328)) = c at *
    have hc' : ∀ i, cen (fun j => (r j : EReal)) i = (c i : EReal) := fun i => by rw [hc i, ← hcdef]
    have hS : ∑ i, cen (fun j => (r j : EReal)) i * cen (fun j => (r j : EReal)) i = ((∑ i, c i * c i : ℝ) : EReal) := by
      rw [coe_sum]
      exact Finset.sum_congr rfl fun i _ => by rw [hc' i, EReal.coe_mul]
    have hk : c k * c k ≤ ∑ i, c i * c i :=
      Finset.single_le_sum (f := fun i => c i * c i) (fun i _ => mul_self_nonneg _) (Finset.mem_univ k)
    generalize (∑ i, c i * c i) = S at hS hk
    have hS0 : 0 ≤ S := (mul_self_nonneg _).trans hk
    have hvar : 0 < S * (1 / 3328) + e := by positivity
    have hr : rstd (fun j => (r j : EReal)) = (((Real.sqrt (S * (1 / 3328) + e))⁻¹ : ℝ) : EReal) := by
      rw [rstd, hS, div_width, hE, ← EReal.coe_mul, ← EReal.coe_add, Ideal.rsqrt_coe, if_neg (not_lt.mpr hvar.le),
        if_neg hvar.ne']
    refine ⟨c k * (Real.sqrt (S * (1 / 3328) + e))⁻¹, ?_, by rw [hr, hc' k, EReal.coe_mul]⟩
    have hsq := Real.sqrt_pos.mpr hvar
    rw [abs_mul, abs_of_pos (inv_pos.mpr hsq), ← div_eq_mul_inv, div_le_iff₀ hsq]
    refine abs_le_of_sq_le_sq ?_ (by positivity)
    rw [mul_pow, Real.sq_sqrt hvar.le]
    nlinarith
  · -- a row with an infinity
    have hinf : ∀ i, cen r i = ⊤ ∨ cen r i = ⊥ := by
      push Not at hreal
      obtain ⟨i₀, hi₀⟩ := hreal
      by_cases hb : ∃ i, r i = ⊥
      · obtain ⟨i₁, h₁⟩ := hb
        intro i
        rw [cen, sum_eq_bot h₁, div_width, EReal.bot_mul_coe_of_pos (by norm_num)]
        by_cases hi : r i = ⊥
        · rw [hi]; exact Or.inr rfl
        · exact Or.inl (EReal.sub_bot hi)
      · push Not at hb
        have h₀ : r i₀ = ⊤ := by
          by_contra hne
          exact hb i₀ (hi₀ hne)
        intro i
        rw [cen, sum_eq_top h₀ hb, div_width, EReal.top_mul_coe_of_pos (by norm_num)]
        exact Or.inr (EReal.sub_top _)
    exact ⟨0, by norm_num, by rw [rstd_of_infinite r k hinf, mul_zero, EReal.coe_zero]⟩

/-- A number with magnitude at most a real is a real within it. -/
theorem real_of_abs_le {a : EReal} {M : ℝ} (h : max a (-a) ≤ (M : EReal)) : ∃ z : ℝ, |z| ≤ M ∧ a = (z : EReal) := by
  obtain ⟨h1, h2⟩ := max_le_iff.mp h
  have ht : a ≠ ⊤ := fun hc => by rw [hc] at h1; exact absurd h1 (not_le.mpr (EReal.coe_lt_top M))
  have hb : a ≠ ⊥ := fun hc => by rw [hc, EReal.neg_bot] at h2; exact absurd h2 (not_le.mpr (EReal.coe_lt_top M))
  lift a to ℝ using ⟨ht, hb⟩
  rw [← EReal.coe_neg, EReal.coe_le_coe_iff] at h2
  rw [EReal.coe_le_coe_iff] at h1
  exact ⟨a, abs_le.mpr ⟨by linarith, h1⟩, rfl⟩

/-- THE GREATEST MAGNITUDE OVER 448 of a modulated row is a real in `[0, 2 ^ 126)` if `scale` and `shift` are in range. -/
theorem amax_range (r sc sh : Fin 3328 → EReal)
    (hsc : ∀ k, max (sc k) (-sc k) ≤ Ideal.ofBits .f32 0x7F7F0000#32)
    (hsh : ∀ k, max (sh k) (-sh k) ≤ Ideal.ofBits .f32 0x7F7F0000#32) :
    0 ≤ amax r sc sh ∧ amax r sc sh < fieldPow 253 := by
  obtain ⟨M, hM, hMe⟩ := ofBits_greatest
  obtain ⟨u, hu, hu', hue⟩ := cUnit_le
  have hh : ∀ k, ∃ z : ℝ, |z| ≤ 58 + 59 * 2 ^ 128 ∧ hid r sc sh k = (z : EReal) := fun k => by
    obtain ⟨z, hz, e⟩ := normed_le r k
    obtain ⟨a, ha, ea⟩ := real_of_abs_le (hMe ▸ hsc k)
    obtain ⟨b, hb, eb⟩ := real_of_abs_le (hMe ▸ hsh k)
    refine ⟨z * (1 + a) + b, ?_, ?_⟩
    · refine (abs_add_le _ _).trans ?_
      rw [abs_mul]
      have h1 : |1 + a| ≤ 1 + 2 ^ 128 := (abs_add_le _ _).trans (by rw [abs_one]; linarith)
      have h2 := mul_le_mul hz h1 (abs_nonneg _) (by norm_num)
      linarith
    · rw [hid, e, ea, eb, ← EReal.coe_one, ← EReal.coe_add, ← EReal.coe_mul, ← EReal.coe_add]
  have habs : ∀ k, ∃ z : ℝ, 0 ≤ z ∧ z ≤ 58 + 59 * 2 ^ 128 ∧ max (hid r sc sh k) (-hid r sc sh k) = (z : EReal) := fun k => by
    obtain ⟨z, hz, e⟩ := hh k
    refine ⟨|z|, abs_nonneg _, hz, ?_⟩
    rw [e, ← EReal.coe_neg, abs]
    exact (EReal.coe_strictMono.monotone.map_max).symm
  rw [amax, cBot_eq, hue]
  have hlo : (0 : EReal) ≤ Finset.univ.fold max ⊥ (fun k => max (hid r sc sh k) (-hid r sc sh k)) := by
    rw [Finset.le_fold_max]
    obtain ⟨z, hz, -, e⟩ := habs 0
    exact Or.inr ⟨0, Finset.mem_univ _, by rw [e]; exact_mod_cast hz⟩
  have hhi : Finset.univ.fold max ⊥ (fun k => max (hid r sc sh k) (-hid r sc sh k)) ≤ ((58 + 59 * 2 ^ 128 : ℝ) : EReal) := by
    rw [Finset.fold_max_le]
    refine ⟨bot_le, fun k _ => ?_⟩
    obtain ⟨z, -, hz, e⟩ := habs k
    rw [e, EReal.coe_le_coe_iff]; exact hz
  generalize Finset.univ.fold max ⊥ (fun k => max (hid r sc sh k) (-hid r sc sh k)) = A at hlo hhi ⊢
  lift A to ℝ using ⟨(lt_of_le_of_lt hhi (EReal.coe_lt_top _)).ne, fun hc => by rw [hc] at hlo; simp at hlo⟩
  rw [EReal.coe_le_coe_iff] at hhi
  have hlo' : 0 ≤ A := by exact_mod_cast hlo
  rw [← EReal.coe_mul, fieldPow_of_lt (by omega), EReal.coe_lt_coe_iff]
  refine ⟨by exact_mod_cast mul_nonneg hlo' hu.le, ?_⟩
  have h1 : A * u ≤ (58 + 59 * 2 ^ 128) * (1 / 440) := mul_le_mul hhi hu' hu.le (by positivity)
  have h2 : ((58 : ℝ) + 59 * 2 ^ 128) * (1 / 440) < (2 : ℝ) ^ (((253 : ℕ) : ℤ) - 127) := by
    have : (((253 : ℕ) : ℤ) - 127) = ((126 : ℕ) : ℤ) := by norm_num
    rw [this, zpow_natCast]; norm_num
  exact lt_of_le_of_lt h1 h2

end Cert.Rows

end
-- ==== Proof.Equation.lean ====
/-
  The equation: where the shift and the scale are within the precondition's range, the kernel's three results are the
  reference's three results, element by element.
-/
module

public import proofs.«01_k».proof.Proof.KernelValue
public import proofs.«01_k».proof.Proof.RefRun
public import proofs.«01_k».proof.Proof.RefRows
public import proofs.«01_k».proof.Proof.Exponent
public import proofs.«01_k».proof.Proof.Bound
public import proofs.«01_k».proof.Proof.Gen.Pre_in_range
public import Idealize.ShloMosaic.Lib.ReduceAll
public import Idealize.ShloMosaic.Lib.Pointwise

@[expose] public section

set_option maxRecDepth 16384

noncomputable section

namespace Cert.Equation

open Idealize.ShloMosaic

/-! ## A leading unit axis dropped or added -/

section
variable {α : Type} {a b : Nat}

theorem dropUnit_apply (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 (0 : Fin 1) i j) := by
  refine shapeCast_apply x h _ _ ?_
  rw [Shape.rowMajor_val_three, Shape.rowMajor_val_two]
  show (0 * a + i.val) * b + j.val = i.val * b + j.val
  rw [Nat.zero_mul, Nat.zero_add]

theorem addUnit_apply (x : (⟨2, ![a, b]⟩ : Shape).Idx → α) (h : (⟨2, ![a, b]⟩ : Shape).ShapeCasts ⟨3, ![1, a, b]⟩)
    (u : Fin 1) (i : Fin a) (j : Fin b) : shapeCast ⟨3, ![1, a, b]⟩ x h (ix3 u i j) = x (ix2 i j) := by
  refine shapeCast_apply x h _ _ ?_
  have hu : u.val = 0 := by omega
  rw [Shape.rowMajor_val_three, Shape.rowMajor_val_two]
  show i.val * b + j.val = (u.val * a + i.val) * b + j.val
  rw [hu, Nat.zero_mul, Nat.zero_add]

theorem addUnit1_apply (x : (⟨1, ![a]⟩ : Shape).Idx → α) (h : (⟨1, ![a]⟩ : Shape).ShapeCasts ⟨2, ![1, a]⟩)
    (u : Fin 1) (i : Fin a) : shapeCast ⟨2, ![1, a]⟩ x h (ix2 u i) = x (ix1 i) := by
  refine shapeCast_apply x h _ _ ?_
  have hu : u.val = 0 := by omega
  rw [Shape.rowMajor_val_two, Shape.rowMajor_val_one]
  show i.val = u.val * a + i.val
  rw [hu, Nat.zero_mul, Nat.zero_add]

end

/-! ## The precondition, read -/

/-- The precondition holds: every shift and every scale is in range. -/
theorem range_of_pre (a0 a1 a2 a3 a4 a5 a6)
    (h : Cert.Pre_in_range.fn (F := Ideal) a0 a1 a2 a3 a4 a5 a6 = fun _ => 1#1) :
    (∀ k, max (a1 (ix2 (0 : Fin 1) k) : EReal) (-(a1 (ix2 (0 : Fin 1) k) : EReal)) ≤ Ideal.ofBits .f32 0x7F7F0000#32)
      ∧ ∀ k, max (a2 (ix2 (0 : Fin 1) k) : EReal) (-(a2 (ix2 (0 : Fin 1) k) : EReal)) ≤ Ideal.ofBits .f32 0x7F7F0000#32 := by
  obtain ⟨h1, h2⟩ := IntOp.andi_eq_one.1 (congrFun h (fun a => a.elim0))
  exact ⟨fun k => (WordCmp.ofBool_decide_eq_one_iff _).1 (Host.reduce_andi_all _ _ _ _ _ h1 (ix2 (0 : Fin 1) k)),
    fun k => (WordCmp.ofBool_decide_eq_one_iff _).1 (Host.reduce_andi_all _ _ _ _ _ h2 (ix2 (0 : Fin 1) k))⟩

/-! ## The two sides at an index -/

section
variable (a0 : Vec Ideal ⟨3, ![1, 8192, 3328]⟩ .bf16) (a1 a2 : Vec Ideal ⟨2, ![1, 3328]⟩ .bf16)
  (a3 : Vec Ideal ⟨2, ![1, 31872]⟩ .bf16) (a4 : Vec Ideal ⟨2, ![3328, 31872]⟩ .fp8e4m3) (a5 : Vec Ideal ⟨1, ![31872]⟩ .f32)
  (a6 : Vec Ideal ⟨1, ![31872]⟩ .bf16)

/-- Row `p` of the activations. -/
abbrev actRow (p : Fin 8192) : Fin 3328 → EReal := fun k => a0 (ix3 (0 : Fin 1) p k)
/-- The scale, and the shift, as a row. -/
abbrev vecRow (a : Vec Ideal ⟨2, ![1, 3328]⟩ .bf16) : Fin 3328 → EReal := fun k => a (ix2 (0 : Fin 1) k)

/-- The kernel's code. -/
theorem kernel_code (p : Fin 8192) (q : Fin 3328) :
    KernelIdeal.Value.codesOf a0 a1 a2 (ix2 p q) = Rows.kerCode (actRow a0 p) (vecRow a2) (vecRow a1) q := by
  show Rows.kerCode (fun k => shapeCast _ a0 _ (ix2 p k)) _ _ q = _
  simp only [dropUnit_apply]

/-- The kernel's unit. -/
theorem kernel_unit (p : Fin 8192) :
    KernelIdeal.Value.unitsOf a0 a1 a2 (ix2 p (0 : Fin 1)) = Rows.kerUnit (actRow a0 p) (vecRow a2) (vecRow a1) := by
  show Rows.kerUnit (fun k => shapeCast _ a0 _ (ix2 p k)) _ _ = _
  simp only [dropUnit_apply]

open Cert.ReferenceIdeal.Gen in
/-- The reference's modulated array, its column of greatest magnitudes and its constant column, without the whole-array loads. -/
theorem ref_loads : k0_pay10 (F := Ideal) a0 a1 a2 a3 a4 a5 a6 = k0_pay2 a0 a1 a2
    ∧ k0_pay11 (F := Ideal) a0 a1 a2 a3 a4 a5 a6 = k0_pay3 a0 a1 a2
    ∧ k0_pay12 (F := Ideal) a0 a1 a2 a3 a4 a5 a6 = k0_pay4 := by
  have hz0 : (![0, 0, 0] : Fin 3 → Nat) = fun _ => 0 := funext fun a => by fin_cases a <;> rfl
  have hz1 : (![0, 0] : Fin 2 → Nat) = fun _ => 0 := funext fun a => by fin_cases a <;> rfl
  refine ⟨?_, ?_, rfl⟩
  · unfold k0_pay10
    rw [View.ld_unit_zero (S := ReferenceIdeal.S1x8192x3328) hz0, View.ld_unit_zero (S := ReferenceIdeal.S1x3328) hz1,
      View.ld_unit_zero (S := ReferenceIdeal.S1x3328) hz1]
  · unfold k0_pay11
    rw [View.ld_unit_zero (S := ReferenceIdeal.S1x8192x3328) hz0, View.ld_unit_zero (S := ReferenceIdeal.S1x3328) hz1,
      View.ld_unit_zero (S := ReferenceIdeal.S1x3328) hz1]

open Cert.ReferenceIdeal.Gen in
/-- The reference's code, in the row functions. -/
theorem ref_code (p : Fin 8192) (q : Fin 3328) :
    k0_pay7 (F := Ideal) (k0_pay2 a0 a1 a2) (k0_pay3 a0 a1 a2) k0_pay4 (ix2 p q)
      = min (Ideal.ofBits .f32 0x43E00000#32) (max (Ideal.ofBits .f32 0xC3E00000#32)
          (Rows.hid (actRow a0 p) (vecRow a2) (vecRow a1) q
            * Ideal.exp2 (0 - Rows.refExponent (Rows.amax (actRow a0 p) (vecRow a2) (vecRow a1))))) := by
  rw [ReferenceIdeal.Read.code_apply, ReferenceIdeal.Read.hid_apply, ReferenceIdeal.Read.amax_apply]

open Cert.ReferenceIdeal.Gen in
/-- The reference's unit, in the row functions. -/
theorem ref_unit (p : Fin 8192) :
    Ideal.exp2 (k0_pay5 (F := Ideal) (k0_pay3 a0 a1 a2) k0_pay4 (ix2 p (0 : Fin 1)))
      = Ideal.exp2 (Rows.refExponent (Rows.amax (actRow a0 p) (vecRow a2) (vecRow a1))) := by
  rw [ReferenceIdeal.Read.exponent_apply, ReferenceIdeal.Read.amax_apply]

variable (h1 : ∀ k, max (a1 (ix2 (0 : Fin 1) k) : EReal) (-(a1 (ix2 (0 : Fin 1) k) : EReal)) ≤ Ideal.ofBits .f32 0x7F7F0000#32)
  (h2 : ∀ k, max (a2 (ix2 (0 : Fin 1) k) : EReal) (-(a2 (ix2 (0 : Fin 1) k) : EReal)) ≤ Ideal.ofBits .f32 0x7F7F0000#32)

include h1 h2

open Cert.ReferenceIdeal.Gen in
/-- The two codes agree. -/
theorem code_eq (p : Fin 8192) (q : Fin 3328) :
    KernelIdeal.Value.codesOf a0 a1 a2 (ix2 p q)
      = k0_pay7 (F := Ideal) (k0_pay2 a0 a1 a2) (k0_pay3 a0 a1 a2) k0_pay4 (ix2 p q) := by
  obtain ⟨hl, hu⟩ := Rows.amax_range (actRow a0 p) (vecRow a2) (vecRow a1) h2 h1
  rw [kernel_code, ref_code, ← (Rows.unit_eq hl hu).2]
  rfl

open Cert.ReferenceIdeal.Gen in
/-- The two units agree. -/
theorem unit_eq (p : Fin 8192) :
    KernelIdeal.Value.unitsOf a0 a1 a2 (ix2 p (0 : Fin 1))
      = Ideal.exp2 (k0_pay5 (F := Ideal) (k0_pay3 a0 a1 a2) k0_pay4 (ix2 p (0 : Fin 1))) := by
  obtain ⟨hl, hu⟩ := Rows.amax_range (actRow a0 p) (vecRow a2) (vecRow a1) h2 h1
  rw [kernel_unit, ref_unit, ← (Rows.unit_eq hl hu).1]
  rfl

/-! ## The three results -/

/-- The first result, the gated product. -/
theorem result0 : KernelIdeal.Value.H0 a0 a1 a2 a3 a4 a5 a6 = ReferenceIdeal.Value.G7 a0 a1 a2 a3 a4 a5 a6 := by
  obtain ⟨e1, e2, e3⟩ := ref_loads a0 a1 a2 a3 a4 a5 a6
  unfold ReferenceIdeal.Value.G7
  rw [e1, e2, e3]
  funext i
  obtain ⟨u, p, q, rfl⟩ : ∃ (u : Fin 1) (p : Fin 8192) (q : Fin 31872), i = ix3 u p q := ⟨i 0, i 1, i 2, eq_ix3 i⟩
  obtain rfl : u = 0 := Subsingleton.elim _ _
  rw [ReferenceIdeal.Read.out_apply, ← unit_eq a0 a1 a2 h1 h2 p,
    Finset.sum_congr rfl fun k _ => congrArg (fun z : EReal => z * a4 (ix2 k q)) (code_eq a0 a1 a2 h1 h2 p k).symm]
  unfold KernelIdeal.Value.H0
  rw [addUnit_apply]
  unfold KernelIdeal.Read.product
  show ((∑ k, _) * _ * shapeCast _ a5 _ (ix2 (0 : Fin 1) q) + shapeCast _ a6 _ (ix2 (0 : Fin 1) q)) * _ = _
  rw [addUnit1_apply, addUnit1_apply]
  rfl

/-- The second result, the codes. -/
theorem result1 : KernelIdeal.Value.H1 a0 a1 a2 = ReferenceIdeal.Value.G8 a0 a1 a2 a3 a4 a5 a6 := by
  obtain ⟨e1, e2, e3⟩ := ref_loads a0 a1 a2 a3 a4 a5 a6
  unfold ReferenceIdeal.Value.G8
  rw [e1, e2, e3]
  funext i
  obtain ⟨u, p, q, rfl⟩ : ∃ (u : Fin 1) (p : Fin 8192) (q : Fin 3328), i = ix3 u p q := ⟨i 0, i 1, i 2, eq_ix3 i⟩
  unfold KernelIdeal.Value.H1 ReferenceIdeal.Gen.k0_pay9
  rw [addUnit_apply, addUnit_apply]
  exact code_eq a0 a1 a2 h1 h2 p q

/-- The third result, the units. -/
theorem result2 : KernelIdeal.Value.H2 a0 a1 a2 = ReferenceIdeal.Value.G9 a0 a1 a2 a3 a4 a5 a6 := by
  obtain ⟨e1, e2, e3⟩ := ref_loads a0 a1 a2 a3 a4 a5 a6
  unfold ReferenceIdeal.Value.G9
  rw [e2, e3]
  funext i
  obtain ⟨u, p, q, rfl⟩ : ∃ (u : Fin 1) (p : Fin 8192) (q : Fin 1), i = ix3 u p q := ⟨i 0, i 1, i 2, eq_ix3 i⟩
  obtain rfl : q = 0 := Subsingleton.elim _ _
  unfold KernelIdeal.Value.H2 ReferenceIdeal.Gen.k0_pay1
  rw [addUnit_apply, addUnit_apply, ReferenceIdeal.Read.unit_apply]
  exact unit_eq a0 a1 a2 h1 h2 p

end

end Cert.Equation

end
-- ==== Proof.lean ====
/-
  The certificate: the frames of the kernel, of its ideal reading and of the reference, and the equality of the kernel's three
  results with the reference's on extended reals.
-/
module

public import proofs.«01_k».proof.Defs
public import proofs.«01_k».proof.Proof.KernelRun
public import proofs.«01_k».proof.Proof.KernelIdealRun
public import proofs.«01_k».proof.Proof.Gen.ReferenceIdeal.Frame
public import proofs.«01_k».proof.Proof.Equation

@[expose] public section

noncomputable section

namespace Cert.Proof

open Idealize.ShloMosaic Idealize.SL.Sem

/-- The kernel and the reference, run from the same arguments within the precondition, end with equal results: the values are
    the kernel's three functions of the arguments. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => KernelIdeal.Value.H0 _ _ _ _ _ _ _, fun c => KernelIdeal.Value.H1 _ _ _, fun c => KernelIdeal.Value.H2 _ _ _,
    KernelIdeal.Value.run m g, ?_⟩
  refine (θ_run _ _ _).mono (fun r h c => ?_) (ReferenceIdeal.Value.run m' g')
  obtain ⟨e0, e1, e2, e3, e4, e5, e6⟩ := hargs c
  obtain ⟨h1, h2⟩ := Equation.range_of_pre _ _ _ _ _ _ _ (hpre c)
  obtain ⟨r0, r1, r2, rargs⟩ := h c
  rw [e0, e1, e2, e3, e4, e5, e6] at r0 r1 r2
  exact ⟨r0.trans (Equation.result0 _ _ _ _ _ _ _ h1 h2).symm, r1.trans (Equation.result1 _ _ _ _ _ _ _ h1 h2).symm,
    r2.trans (Equation.result2 _ _ _ _ _ _ _ h1 h2).symm, rargs⟩

/-- The whole claim. -/
theorem claim : Cert.Claim :=
  ⟨Cert.Kernel.Gen.facts, Cert.KernelIdeal.Gen.facts, Cert.ReferenceIdeal.Gen.facts, Cert.Pre_in_range.Gen.facts,
    fun m g _ => Cert.Kernel.Run.frame m g, fun m g _ => Cert.KernelIdeal.Run.frame m g,
    fun m g _ => Cert.KernelIdeal.Run.frame m g, fun m g _ => Cert.ReferenceIdeal.Gen.frame m g,
    fun m g _ => Cert.ReferenceIdeal.Gen.frame m g, trivial, algebraic⟩

end Cert.Proof

end
